-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x6144x3584 : Shape := ⟨3, ![2, 6144, 3584]⟩
abbrev S2x6144 : Shape := ⟨2, ![2, 6144]⟩
abbrev S9472x3584 : Shape := ⟨2, ![9472, 3584]⟩
abbrev S9472 : Shape := ⟨1, ![9472]⟩
abbrev S12288x3584 : Shape := ⟨2, ![12288, 3584]⟩
abbrev S12288x1 : Shape := ⟨2, ![12288, 1]⟩
abbrev S1x9472 : Shape := ⟨2, ![1, 9472]⟩
abbrev S12288x9472 : Shape := ⟨2, ![12288, 9472]⟩
abbrev S12288x74 : Shape := ⟨2, ![12288, 74]⟩
abbrev S1024x3584 : Shape := ⟨2, ![1024, 3584]⟩
abbrev S1024x1 : Shape := ⟨2, ![1024, 1]⟩
abbrev S256x3584 : Shape := ⟨2, ![256, 3584]⟩
abbrev S1x256 : Shape := ⟨2, ![1, 256]⟩
abbrev S1024x256 : Shape := ⟨2, ![1024, 256]⟩
abbrev S1024x74 : Shape := ⟨2, ![1024, 74]⟩
abbrev S256x74 : Shape := ⟨2, ![256, 74]⟩
abbrev S256x1 : Shape := ⟨2, ![256, 1]⟩
abbrev S256x256 : Shape := ⟨2, ![256, 256]⟩
abbrev S256x128 : Shape := ⟨2, ![256, 128]⟩
abbrev S256 : Shape := ⟨1, ![256]⟩

abbrev nBuf : Space → Nat
  | .hbm => 12
  | .vmem => 16
  | .smem => 0
  | _ => 0

abbrev bufTy : (tb : Table) → Fin (tcTables nBuf tb) → BufTy
  | .hbm, ⟨0, _⟩ => ⟨S2x6144x3584, .fp8e4m3⟩
  | .hbm, ⟨1, _⟩ => ⟨S2x6144, .f32⟩
  | .hbm, ⟨2, _⟩ => ⟨S9472x3584, .fp8e4m3⟩
  | .hbm, ⟨3, _⟩ => ⟨S9472, .f32⟩
  | .hbm, ⟨4, _⟩ => ⟨S9472x3584, .fp8e4m3⟩
  | .hbm, ⟨5, _⟩ => ⟨S9472, .f32⟩
  | .hbm, ⟨6, _⟩ => ⟨S12288x3584, .fp8e4m3⟩
  | .hbm, ⟨7, _⟩ => ⟨S12288x1, .f32⟩
  | .hbm, ⟨8, _⟩ => ⟨S1x9472, .f32⟩
  | .hbm, ⟨9, _⟩ => ⟨S1x9472, .f32⟩
  | .hbm, ⟨10, _⟩ => ⟨S12288x9472, .fp8e4m3⟩
  | .hbm, ⟨11, _⟩ => ⟨S12288x74, .f32⟩
  | .local _ .vmem, ⟨0, _⟩ => ⟨S1024x3584, .fp8e4m3⟩
  | .local _ .vmem, ⟨1, _⟩ => ⟨S1024x3584, .fp8e4m3⟩
  | .local _ .vmem, ⟨2, _⟩ => ⟨S1024x1, .f32⟩
  | .local _ .vmem, ⟨3, _⟩ => ⟨S1024x1, .f32⟩
  | .local _ .vmem, ⟨4, _⟩ => ⟨S256x3584, .fp8e4m3⟩
  | .local _ .vmem, ⟨5, _⟩ => ⟨S256x3584, .fp8e4m3⟩
  | .local _ .vmem, ⟨6, _⟩ => ⟨S1x256, .f32⟩
  | .local _ .vmem, ⟨7, _⟩ => ⟨S1x256, .f32⟩
  | .local _ .vmem, ⟨8, _⟩ => ⟨S256x3584, .fp8e4m3⟩
  | .local _ .vmem, ⟨9, _⟩ => ⟨S256x3584, .fp8e4m3⟩
  | .local _ .vmem, ⟨10, _⟩ => ⟨S1x256, .f32⟩
  | .local _ .vmem, ⟨11, _⟩ => ⟨S1x256, .f32⟩
  | .local _ .vmem, ⟨12, _⟩ => ⟨S1024x256, .fp8e4m3⟩
  | .local _ .vmem, ⟨13, _⟩ => ⟨S1024x256, .fp8e4m3⟩
  | .local _ .vmem, ⟨14, _⟩ => ⟨S1024x74, .f32⟩
  | .local _ .vmem, ⟨15, _⟩ => ⟨S1024x74, .f32⟩
  | _, _ => ⟨S2x6144x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![12, 37], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x3584 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x3584 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x3584 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x74 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S2x6144x3584 : Shape := ⟨3, ![2, 6144, 3584]⟩
abbrev S2x6144 : Shape := ⟨2, ![2, 6144]⟩
abbrev S9472x3584 : Shape := ⟨2, ![9472, 3584]⟩
abbrev S9472 : Shape := ⟨1, ![9472]⟩
abbrev S12288x3584 : Shape := ⟨2, ![12288, 3584]⟩
abbrev S12288 : Shape := ⟨1, ![12288]⟩
abbrev S12288x9472 : Shape := ⟨2, ![12288, 9472]⟩
abbrev S12288x74 : Shape := ⟨2, ![12288, 74]⟩
abbrev S12288x1 : Shape := ⟨2, ![12288, 1]⟩
abbrev S1x9472 : Shape := ⟨2, ![1, 9472]⟩
abbrev S12288x74x128 : Shape := ⟨3, ![12288, 74, 128]⟩
abbrev S12288x74x1 : Shape := ⟨3, ![12288, 74, 1]⟩

abbrev nBuf : Space → Nat
  | .hbm => 10
  | .vmem => 8
  | .smem => 0
  | _ => 0

abbrev bufTy : (tb : Table) → Fin (tcTables nBuf tb) → BufTy
  | .hbm, ⟨0, _⟩ => ⟨S2x6144x3584, .fp8e4m3⟩
  | .hbm, ⟨1, _⟩ => ⟨S2x6144, .f32⟩
  | .hbm, ⟨2, _⟩ => ⟨S9472x3584, .fp8e4m3⟩
  | .hbm, ⟨3, _⟩ => ⟨S9472, .f32⟩
  | .hbm, ⟨4, _⟩ => ⟨S9472x3584, .fp8e4m3⟩
  | .hbm, ⟨5, _⟩ => ⟨S9472, .f32⟩
  | .hbm, ⟨6, _⟩ => ⟨S12288x3584, .fp8e4m3⟩
  | .hbm, ⟨7, _⟩ => ⟨S12288, .f32⟩
  | .hbm, ⟨8, _⟩ => ⟨S12288x9472, .fp8e4m3⟩
  | .hbm, ⟨9, _⟩ => ⟨S12288x74, .f32⟩
  | .local _ .vmem, ⟨0, _⟩ => ⟨S12288x3584, .fp8e4m3⟩
  | .local _ .vmem, ⟨1, _⟩ => ⟨S12288, .f32⟩
  | .local _ .vmem, ⟨2, _⟩ => ⟨S9472x3584, .fp8e4m3⟩
  | .local _ .vmem, ⟨3, _⟩ => ⟨S9472, .f32⟩
  | .local _ .vmem, ⟨4, _⟩ => ⟨S9472x3584, .fp8e4m3⟩
  | .local _ .vmem, ⟨5, _⟩ => ⟨S9472, .f32⟩
  | .local _ .vmem, ⟨6, _⟩ => ⟨S12288x9472, .fp8e4m3⟩
  | .local _ .vmem, ⟨7, _⟩ => ⟨S12288x74, .f32⟩
  | _, _ => ⟨S2x6144x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S12288x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9472x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S9472 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S9472x3584 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S9472 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288x9472 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12288x74 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.KFrame.lean ====
/-
  The kernel as printed runs, at any values: it terminates without fault, leaves its arguments unchanged and ends with
  every semaphore counter at zero. Of the two output windows nothing is stated here.
-/
module

public import proofs.«01_k».proof.Proof.Gen.Kernel.Frame
public import proofs.«01_k».proof.Proof.Gen.Kernel.Skeleton
public import Idealize.ShloMosaic.Lib.Claim

@[expose] public section

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The argument arrays after a run that leaves the region's other buffers as they were. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((hA c 2).trans (V_main_arg2 m c)),
      ((h c).2 main_arg3 (Pipeline.mem_restRefs_of main_arg3 (by decide) (by decide))).trans (V_main_arg3 m c),
      (Pipeline.RDat.FramePost.arr_in h c 4 rfl).trans ((hA c 4).trans (V_main_arg4 m c)),
      ((h c).2 main_arg5 (Pipeline.mem_restRefs_of main_arg5 (by decide) (by decide))).trans (V_main_arg5 m c)⟩) h

/-! ## One run of the body -/

/-- The windows' staging buffers at point `t`, and that each is whole. -/
abbrev ms0_0 (t : Fin cfg0.N) : Memref sig .tc .vmem S1024x3584 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x3584 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x3584 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x256 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x74 .f32 := win0_7.stage (cfg0.slots t 7)
abbrev hs0_7 (t : Fin cfg0.N) : (ms0_7 t).IsWhole := hstage0_7 ((cfg0.slots t 7).cast nbuf0_7)

set_option maxHeartbeats 1000000 in
/-- One run of the body on whole staging buffers: the inputs' are as they were, the outputs' hold something. -/
theorem kernelRun0_A (c : Dev nD) (i : grid0.Coords) (arg2 : Memref sig .tc .vmem S1024x3584 .fp8e4m3) (harg2 : arg2.IsWhole) (arg3 : Memref sig .tc .vmem S1024x1 .f32) (harg3 : arg3.IsWhole) (arg4 : Memref sig .tc .vmem S256x3584 .fp8e4m3) (harg4 : arg4.IsWhole) (arg5 : Memref sig .tc .vmem S1x256 .f32) (harg5 : arg5.IsWhole) (arg6 : Memref sig .tc .vmem S256x3584 .fp8e4m3) (harg6 : arg6.IsWhole) (arg7 : Memref sig .tc .vmem S1x256 .f32) (harg7 : arg7.IsWhole) (arg8 : Memref sig .tc .vmem S1024x256 .fp8e4m3) (harg8 : arg8.IsWhole) (arg9 : Memref sig .tc .vmem S1024x74 .f32) (harg9 : arg9.IsWhole)
    (x0 : Vec F S1024x3584 .fp8e4m3) (x1 : Vec F S1024x1 .f32) (x2 : Vec F S256x3584 .fp8e4m3) (x3 : Vec F S1x256 .f32) (x4 : Vec F S256x3584 .fp8e4m3) (x5 : Vec F S1x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)) -∗ K ⟨⟩))
          ⊢ wp frame (wpE (defs₀ (F := F)) Variants.none c none) E (cc0_swiglu_requant i arg2 harg2 arg3 harg3 arg4 harg4 arg5 harg5 arg6 harg6 arg7 harg7 arg8 harg8 arg9 harg9) K := by
    intro E K
    simp only [cc0_swiglu_requant_eq_skeleton]; unfold cc0_swiglu_requant_skel
    simp only [k0_part17_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    iexists _, _; isplitr; swap; · iexact H7
    ipureintro; rfl

/-! ## The run's data -/

/-- The two output windows, of which nothing is stated. -/
def forgets0 : Fin 8 → Bool := fun w => w.val == 6 || w.val == 7

/-- The run's data: the arrays as the region finds them, each input's block in place after the body, the outputs unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

/-- The arrays are those the region finds. -/
theorem A_eq (c : Dev nD) (w : Fin cfg0.W) : (dats m 0 c).A w = V m c (Pipeline.arrRef spec0 w) := by
  dsimp only [dats]

/-- What the body leaves in the input windows: their blocks. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- What the body finds in the input windows: their blocks. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d))

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body there. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The run, and every counter at zero after it. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

/-- The argument arrays end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Hand

end
-- ==== Proof.Tile.lean ====
module

public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

/-! # What one run of the body computes, as functions of its blocks

One sub-block is 256 rows of the tile. Its 256 columns are two groups of 128. -/

/-- The SwiGLU block of 256 rows by 256 columns, from the rows' codes and scales and the two weight tiles. -/
abbrev hBlk (x : Vec F S256x3584 .fp8e4m3) (xs : Vec F S256x1 .f32) (wg : Vec F S256x3584 .fp8e4m3) (wgs : Vec F S1x256 .f32)
    (wu : Vec F S256x3584 .fp8e4m3) (wus : Vec F S1x256 .f32) : FVec F S256x256 .f32 :=
  k0_pay2 x xs wg wgs wu wus

/-- The first group of 128 columns. -/
def grp0 (h : FVec F S256x256 .f32) : FVec F S256x128 .f32 := extractStridedSlice S256x128 ![0, 0] h slices_S256x256_o0_0_S256x128

/-- The second group of 128 columns. -/
def grp1 (h : FVec F S256x256 .f32) : FVec F S256x128 .f32 := extractStridedSlice S256x128 ![0, 128] h slices_S256x256_o0_128_S256x128

/-- Each row's largest magnitude in a group, over 448: what the exponent is taken of. -/
def ratio (g : FVec F S256x128 .f32) : FVec F S256x1 .f32 :=
  absf (mulf (shapeCast S256x1 (multiReduction .maximumf [1] S256 (absf g) 0xFF800000#32 reduces_S256x128_S256 (.inl rfl) rfl) shapeCasts_S256_S256x1)
    (broadcast S256x1 (Scalar.ofBits .f32 0x3B124925#32)))

/-- One step of the search: keep the bit `k` if the float of the word with it set is at most `r`. -/
def stepBits (r : FVec F S256x1 .f32) (b : IVec S256x1 32) (k : BitVec 32) : IVec S256x1 32 :=
  select (cmpf .olt r (bitcastToFloat .f32 (ori b (broadcast S256x1 k)))) b (ori b (broadcast S256x1 k))

/-- The exponent bits of `r`: eight steps, from the highest bit of the field to the lowest. -/
def expBits (r : FVec F S256x1 .f32) : IVec S256x1 32 :=
  stepBits r (stepBits r (stepBits r (stepBits r (stepBits r (stepBits r (stepBits r (stepBits r (broadcast S256x1 0#32) 1073741824#32)
    536870912#32) 268435456#32) 134217728#32) 67108864#32) 33554432#32) 16777216#32) 8388608#32

/-- The exponent bits with those of zero and of infinity replaced by the ones that give scale 1. -/
def useBits (b : IVec S256x1 32) : IVec S256x1 32 :=
  select (andi (cmpi .ne b (broadcast S256x1 0#32)) (cmpi .ne b (broadcast S256x1 2139095040#32))) b (broadcast S256x1 1056964608#32)

/-- Each row's scale of a group. -/
def scaleOf (g : FVec F S256x128 .f32) : FVec F S256x1 .f32 :=
  bitcastToFloat .f32 (addi (useBits (expBits (ratio g))) (broadcast S256x1 8388608#32))

/-- The reciprocal of each row's scale of a group. -/
def invOf (g : FVec F S256x128 .f32) : FVec F S256x1 .f32 :=
  bitcastToFloat .f32 (subi (broadcast S256x1 2122317824#32) (useBits (expBits (ratio g))))

/-- The codes of a group. -/
def codesOf (g : FVec F S256x128 .f32) : FVec F S256x128 .fp8e4m3 :=
  truncf .fp8e4m3 (minimumf (broadcast S256x128 (Scalar.ofBits .f32 0x43E00000#32))
    (maximumf (broadcast S256x128 (Scalar.ofBits .f32 0xC3E00000#32)) (mulf g (broadcastTo S256x128 (invOf g) broadcasts_S256x1_S256x128)))) bitsLt_fp8e4m3_f32

/-- The scales so far, with lane `j` replaced by a group's scale. -/
def accOf (acc : FVec F S256x74 .f32) (j : BitVec 32) (s : FVec F S256x1 .f32) : FVec F S256x74 .f32 :=
  select (cmpi .eq (iota .tc S256x74 32 [1] iota_S256x74_d1_w32) (broadcast S256x74 j))
    (broadcastTo S256x74 (shapeCast S256x1 s shapeCasts_S256x1_S256x1) broadcasts_S256x1_S256x74) acc

/-- The scales of a sub-block after the body: lanes `2n` and `2n + 1` replaced. -/
def accBlk (n : BitVec 32) (h : FVec F S256x256 .f32) (acc : FVec F S256x74 .f32) : FVec F S256x74 .f32 :=
  accOf (accOf (shapeCast S256x74 acc shapeCasts_S256x74_S256x74) (Scalar.addi (Scalar.muli n 2#32) 0#32) (scaleOf (grp0 h))) (Scalar.addi (Scalar.muli n 2#32) 1#32) (scaleOf (grp1 h))

/-- The SwiGLU block of rows 0 to 255 of the tile. -/
abbrev hAt0 (x0 : Vec F S1024x3584 .fp8e4m3) (x1 : Vec F S1024x1 .f32) (x2 : Vec F S256x3584 .fp8e4m3) (x3 : Vec F S1x256 .f32)
    (x4 : Vec F S256x3584 .fp8e4m3) (x5 : Vec F S1x256 .f32) : FVec F S256x256 .f32 :=
  hBlk (View.ld x0 (Rect.unit ![0, 0] S256x3584.size inb_S1024x3584_S256x3584_0_0))
    (View.ld x1 (Rect.unit ![0, 0] S256x1.size inb_S1024x1_S256x1_0_0))
    (View.ld x2 (Rect.unit ![0, 0] S256x3584.size inb_S256x3584_S256x3584_0_0))
    (View.ld x3 (Rect.unit ![0, 0] S1x256.size inb_S1x256_S1x256_0_0))
    (View.ld x4 (Rect.unit ![0, 0] S256x3584.size inb_S256x3584_S256x3584_0_0))
    (View.ld x5 (Rect.unit ![0, 0] S1x256.size inb_S1x256_S1x256_0_0))

/-- The SwiGLU block of rows 256 to 511 of the tile. -/
abbrev hAt256 (x0 : Vec F S1024x3584 .fp8e4m3) (x1 : Vec F S1024x1 .f32) (x2 : Vec F S256x3584 .fp8e4m3) (x3 : Vec F S1x256 .f32)
    (x4 : Vec F S256x3584 .fp8e4m3) (x5 : Vec F S1x256 .f32) : FVec F S256x256 .f32 :=
  hBlk (View.ld x0 (Rect.unit ![256, 0] S256x3584.size inb_S1024x3584_S256x3584_256_0))
    (View.ld x1 (Rect.unit ![256, 0] S256x1.size inb_S1024x1_S256x1_256_0))
    (View.ld x2 (Rect.unit ![0, 0] S256x3584.size inb_S256x3584_S256x3584_0_0))
    (View.ld x3 (Rect.unit ![0, 0] S1x256.size inb_S1x256_S1x256_0_0))
    (View.ld x4 (Rect.unit ![0, 0] S256x3584.size inb_S256x3584_S256x3584_0_0))
    (View.ld x5 (Rect.unit ![0, 0] S1x256.size inb_S1x256_S1x256_0_0))

/-- The SwiGLU block of rows 512 to 767 of the tile. -/
abbrev hAt512 (x0 : Vec F S1024x3584 .fp8e4m3) (x1 : Vec F S1024x1 .f32) (x2 : Vec F S256x3584 .fp8e4m3) (x3 : Vec F S1x256 .f32)
    (x4 : Vec F S256x3584 .fp8e4m3) (x5 : Vec F S1x256 .f32) : FVec F S256x256 .f32 :=
  hBlk (View.ld x0 (Rect.unit ![512, 0] S256x3584.size inb_S1024x3584_S256x3584_512_0))
    (View.ld x1 (Rect.unit ![512, 0] S256x1.size inb_S1024x1_S256x1_512_0))
    (View.ld x2 (Rect.unit ![0, 0] S256x3584.size inb_S256x3584_S256x3584_0_0))
    (View.ld x3 (Rect.unit ![0, 0] S1x256.size inb_S1x256_S1x256_0_0))
    (View.ld x4 (Rect.unit ![0, 0] S256x3584.size inb_S256x3584_S256x3584_0_0))
    (View.ld x5 (Rect.unit ![0, 0] S1x256.size inb_S1x256_S1x256_0_0))

/-- The SwiGLU block of rows 768 to 1023 of the tile. -/
abbrev hAt768 (x0 : Vec F S1024x3584 .fp8e4m3) (x1 : Vec F S1024x1 .f32) (x2 : Vec F S256x3584 .fp8e4m3) (x3 : Vec F S1x256 .f32)
    (x4 : Vec F S256x3584 .fp8e4m3) (x5 : Vec F S1x256 .f32) : FVec F S256x256 .f32 :=
  hBlk (View.ld x0 (Rect.unit ![768, 0] S256x3584.size inb_S1024x3584_S256x3584_768_0))
    (View.ld x1 (Rect.unit ![768, 0] S256x1.size inb_S1024x1_S256x1_768_0))
    (View.ld x2 (Rect.unit ![0, 0] S256x3584.size inb_S256x3584_S256x3584_0_0))
    (View.ld x3 (Rect.unit ![0, 0] S1x256.size inb_S1x256_S1x256_0_0))
    (View.ld x4 (Rect.unit ![0, 0] S256x3584.size inb_S256x3584_S256x3584_0_0))
    (View.ld x5 (Rect.unit ![0, 0] S1x256.size inb_S1x256_S1x256_0_0))

/-- The body's eight stores of codes, last first. -/
abbrev codesPieces (x0 : Vec F S1024x3584 .fp8e4m3) (x1 : Vec F S1024x1 .f32) (x2 : Vec F S256x3584 .fp8e4m3) (x3 : Vec F S1x256 .f32)
    (x4 : Vec F S256x3584 .fp8e4m3) (x5 : Vec F S1x256 .f32) : List (View.Piece (Elt F) S1024x256 .fp8e4m3) :=
  [⟨Rect.unit ![768, 128] S256x128.size inb_S1024x256_S256x128_768_128, codesOf (grp1 (hAt768 x0 x1 x2 x3 x4 x5))⟩,
   ⟨Rect.unit ![768, 0] S256x128.size inb_S1024x256_S256x128_768_0, codesOf (grp0 (hAt768 x0 x1 x2 x3 x4 x5))⟩,
   ⟨Rect.unit ![512, 128] S256x128.size inb_S1024x256_S256x128_512_128, codesOf (grp1 (hAt512 x0 x1 x2 x3 x4 x5))⟩,
   ⟨Rect.unit ![512, 0] S256x128.size inb_S1024x256_S256x128_512_0, codesOf (grp0 (hAt512 x0 x1 x2 x3 x4 x5))⟩,
   ⟨Rect.unit ![256, 128] S256x128.size inb_S1024x256_S256x128_256_128, codesOf (grp1 (hAt256 x0 x1 x2 x3 x4 x5))⟩,
   ⟨Rect.unit ![256, 0] S256x128.size inb_S1024x256_S256x128_256_0, codesOf (grp0 (hAt256 x0 x1 x2 x3 x4 x5))⟩,
   ⟨Rect.unit ![0, 128] S256x128.size inb_S1024x256_S256x128_0_128, codesOf (grp1 (hAt0 x0 x1 x2 x3 x4 x5))⟩,
   ⟨Rect.unit ![0, 0] S256x128.size inb_S1024x256_S256x128_0_0, codesOf (grp0 (hAt0 x0 x1 x2 x3 x4 x5))⟩]

/-- The body's four stores of scales over the scales `X` it found, last first. -/
abbrev scalePieces (n : BitVec 32) (x0 : Vec F S1024x3584 .fp8e4m3) (x1 : Vec F S1024x1 .f32) (x2 : Vec F S256x3584 .fp8e4m3) (x3 : Vec F S1x256 .f32)
    (x4 : Vec F S256x3584 .fp8e4m3) (x5 : Vec F S1x256 .f32) (X : Vec F S1024x74 .f32) : List (View.Piece (Elt F) S1024x74 .f32) :=
  [⟨Rect.unit ![768, 0] S256x74.size inb_S1024x74_S256x74_768_0, accBlk n (hAt768 x0 x1 x2 x3 x4 x5) (View.ld X (Rect.unit ![768, 0] S256x74.size inb_S1024x74_S256x74_768_0))⟩,
   ⟨Rect.unit ![512, 0] S256x74.size inb_S1024x74_S256x74_512_0, accBlk n (hAt512 x0 x1 x2 x3 x4 x5) (View.ld X (Rect.unit ![512, 0] S256x74.size inb_S1024x74_S256x74_512_0))⟩,
   ⟨Rect.unit ![256, 0] S256x74.size inb_S1024x74_S256x74_256_0, accBlk n (hAt256 x0 x1 x2 x3 x4 x5) (View.ld X (Rect.unit ![256, 0] S256x74.size inb_S1024x74_S256x74_256_0))⟩,
   ⟨Rect.unit ![0, 0] S256x74.size inb_S1024x74_S256x74_0_0, accBlk n (hAt0 x0 x1 x2 x3 x4 x5) (View.ld X (Rect.unit ![0, 0] S256x74.size inb_S1024x74_S256x74_0_0))⟩]

/-- The tile's block of codes after the body. -/
def codesBlk (x0 : Vec F S1024x3584 .fp8e4m3) (x1 : Vec F S1024x1 .f32) (x2 : Vec F S256x3584 .fp8e4m3) (x3 : Vec F S1x256 .f32)
    (x4 : Vec F S256x3584 .fp8e4m3) (x5 : Vec F S1x256 .f32) : Vec F S1024x256 .fp8e4m3 :=
  View.canon (codesPieces x0 x1 x2 x3 x4 x5)

/-- The row block's scales after the body, over the scales `X` it found. -/
def scaleBlk (n : BitVec 32) (x0 : Vec F S1024x3584 .fp8e4m3) (x1 : Vec F S1024x1 .f32) (x2 : Vec F S256x3584 .fp8e4m3) (x3 : Vec F S1x256 .f32)
    (x4 : Vec F S256x3584 .fp8e4m3) (x5 : Vec F S1x256 .f32) (X : Vec F S1024x74 .f32) : Vec F S1024x74 .f32 :=
  View.canon (scalePieces n x0 x1 x2 x3 x4 x5 X)

/-- The eight stores of codes reach every index of the block. -/
theorem codes_cover (x0 : Vec F S1024x3584 .fp8e4m3) (x1 : Vec F S1024x1 .f32) (x2 : Vec F S256x3584 .fp8e4m3) (x3 : Vec F S1x256 .f32)
    (x4 : Vec F S256x3584 .fp8e4m3) (x5 : Vec F S1x256 .f32) : ∀ y, ∃ p ∈ codesPieces x0 x1 x2 x3 x4 x5, y ∈ p.1.set :=
  View.cover_of_tiled _ ![256, 128] (by rfl)

/-- The four stores of scales reach every index of the block. -/
theorem scale_cover (n : BitVec 32) (x0 : Vec F S1024x3584 .fp8e4m3) (x1 : Vec F S1024x1 .f32) (x2 : Vec F S256x3584 .fp8e4m3) (x3 : Vec F S1x256 .f32)
    (x4 : Vec F S256x3584 .fp8e4m3) (x5 : Vec F S1x256 .f32) (X : Vec F S1024x74 .f32) : ∀ y, ∃ p ∈ scalePieces n x0 x1 x2 x3 x4 x5 X, y ∈ p.1.set :=
  View.cover_of_tiled _ ![256, 74] (by rfl)

end Cert.KernelIdeal.Hand

end
-- ==== Proof.Body.lean ====
module

public import proofs.«01_k».proof.Proof.Tile
public import proofs.«01_k».proof.Proof.Gen.KernelIdeal.Skeleton

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- One run of the body: on whole staging memrefs, the inputs' at their contents, the codes' at anything and the scales'
    at `X`, it hands back the inputs as they were, the codes' at `codesBlk` and the scales' at `scaleBlk` over `X`. -/
theorem bodyRun (c : Dev nD) (i : grid0.Coords) (arg2 : Memref sig .tc .vmem S1024x3584 .fp8e4m3) (harg2 : arg2.IsWhole) (arg3 : Memref sig .tc .vmem S1024x1 .f32) (harg3 : arg3.IsWhole) (arg4 : Memref sig .tc .vmem S256x3584 .fp8e4m3) (harg4 : arg4.IsWhole) (arg5 : Memref sig .tc .vmem S1x256 .f32) (harg5 : arg5.IsWhole) (arg6 : Memref sig .tc .vmem S256x3584 .fp8e4m3) (harg6 : arg6.IsWhole) (arg7 : Memref sig .tc .vmem S1x256 .f32) (harg7 : arg7.IsWhole) (arg8 : Memref sig .tc .vmem S1024x256 .fp8e4m3) (harg8 : arg8.IsWhole) (arg9 : Memref sig .tc .vmem S1024x74 .f32) (harg9 : arg9.IsWhole)
    (x0 : Vec F S1024x3584 .fp8e4m3) (x1 : Vec F S1024x1 .f32) (x2 : Vec F S256x3584 .fp8e4m3) (x3 : Vec F S1x256 .f32) (x4 : Vec F S256x3584 .fp8e4m3) (x5 : Vec F S1x256 .f32) (X : Vec F S1024x74 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare X
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (codesBlk x0 x1 x2 x3 x4 x5) ∗ owns (c : Thread nD τ) arg9 fullShare (scaleBlk (BitVec.ofNat 32 (i 1).val) x0 x1 x2 x3 x4 x5 X)) -∗ K ⟨⟩))
          ⊢ wp frame (wpE (defs₀ (F := F)) Variants.none c none) E (cc0_swiglu_requant i arg2 harg2 arg3 harg3 arg4 harg4 arg5 harg5 arg6 harg6 arg7 harg7 arg8 harg8 arg9 harg9) K := by
    intro E K
    simp only [cc0_swiglu_requant_eq_skeleton]; unfold cc0_swiglu_requant_skel
    simp only [k0_part17_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
    subst hf0 hf1 hf2 hf3 hf4 hf5 hf7
    sl_exec
    sl_step
    iapply Hk
    isplitl [H0]; · iexists f0; isplitr; · ipureintro; rfl
                    iexact H0
    isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]
    · iexists _; isplitr
      swap; · iexact H6
      ipureintro
      refine Eq.trans (congrArg (fun L => View.read (Elt F) arg8.view (arg8.view.writes (Elt F) f6 L)) ?_)
        (View.read_writes_eq_canon arg8.view f6 (codesPieces _ _ _ _ _ _) (codes_cover _ _ _ _ _ _))
      delta bodyRun.sl.v0 bodyRun.sl.r_1 bodyRun.sl.r_2 bodyRun.sl.r_3 bodyRun.sl.r_4 bodyRun.sl.r_5 bodyRun.sl.r_6 bodyRun.sl.r_7 bodyRun.sl.r_8 bodyRun.sl.r_9 bodyRun.sl.r_10 bodyRun.sl.r_11 bodyRun.sl.r_12 bodyRun.sl.r_13 bodyRun.sl.r_14 bodyRun.sl.r_15 bodyRun.sl.r_16 bodyRun.sl.r_17 bodyRun.sl.r_18 bodyRun.sl.r_19 bodyRun.sl.r_20 bodyRun.sl.r_21 bodyRun.sl.r_22 bodyRun.sl.r_23 bodyRun.sl.r_24 bodyRun.sl.r_25 bodyRun.sl.r_26 bodyRun.sl.r_27 bodyRun.sl.r_28 bodyRun.sl.r_29 bodyRun.sl.r_30 bodyRun.sl.r_31 bodyRun.sl.r_32 bodyRun.sl.r_33 bodyRun.sl.r_34 bodyRun.sl.r_35 bodyRun.sl.r_36 bodyRun.sl.r_37 bodyRun.sl.r_38 bodyRun.sl.r_39 bodyRun.sl.r_40 bodyRun.sl.r_41 bodyRun.sl.r_42 bodyRun.sl.r_43 bodyRun.sl.r_44 bodyRun.sl.r_45 bodyRun.sl.r_46 bodyRun.sl.r_47 bodyRun.sl.r_48 bodyRun.sl.r_49 bodyRun.sl.r_50 bodyRun.sl.r_51 bodyRun.sl.r_52 bodyRun.sl.r_53 bodyRun.sl.r_54 bodyRun.sl.r_55 bodyRun.sl.r_56
      simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, codesOf, grp0, grp1, invOf, scaleOf, useBits, ratio, expBits, stepBits, accBlk, accOf, View.readAt_eq_ld]
      rfl
    · iexists _; isplitr
      swap; · iexact H7
      ipureintro
      refine Eq.trans (congrArg (fun L => View.read (Elt F) arg9.view (arg9.view.writes (Elt F) f7 L)) ?_)
        (View.read_writes_eq_canon arg9.view f7 (scalePieces _ _ _ _ _ _ _ _) (scale_cover _ _ _ _ _ _ _ _))
      delta bodyRun.sl.v0 bodyRun.sl.r_1 bodyRun.sl.r_2 bodyRun.sl.r_3 bodyRun.sl.r_4 bodyRun.sl.r_5 bodyRun.sl.r_6 bodyRun.sl.r_7 bodyRun.sl.r_8 bodyRun.sl.r_9 bodyRun.sl.r_10 bodyRun.sl.r_11 bodyRun.sl.r_12 bodyRun.sl.r_13 bodyRun.sl.r_14 bodyRun.sl.r_15 bodyRun.sl.r_16 bodyRun.sl.r_17 bodyRun.sl.r_18 bodyRun.sl.r_19 bodyRun.sl.r_20 bodyRun.sl.r_21 bodyRun.sl.r_22 bodyRun.sl.r_23 bodyRun.sl.r_24 bodyRun.sl.r_25 bodyRun.sl.r_26 bodyRun.sl.r_27 bodyRun.sl.r_28 bodyRun.sl.r_29 bodyRun.sl.r_30 bodyRun.sl.r_31 bodyRun.sl.r_32 bodyRun.sl.r_33 bodyRun.sl.r_34 bodyRun.sl.r_35 bodyRun.sl.r_36 bodyRun.sl.r_37 bodyRun.sl.r_38 bodyRun.sl.r_39 bodyRun.sl.r_40 bodyRun.sl.r_41 bodyRun.sl.r_42 bodyRun.sl.r_43 bodyRun.sl.r_44 bodyRun.sl.r_45 bodyRun.sl.r_46 bodyRun.sl.r_47 bodyRun.sl.r_48 bodyRun.sl.r_49 bodyRun.sl.r_50 bodyRun.sl.r_51 bodyRun.sl.r_52 bodyRun.sl.r_53 bodyRun.sl.r_54 bodyRun.sl.r_55 bodyRun.sl.r_56
      simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, codesOf, grp0, grp1, invOf, scaleOf, useBits, ratio, expBits, stepBits, accBlk, accOf, View.readAt_eq_ld]
      rfl

end Cert.KernelIdeal.Hand

end
-- ==== Proof.Scale.lean ====
module

public import Idealize.ShloMosaic.Lib.Pointwise
public import Idealize.ShloMosaic.PureOps.Ideal

@[expose] public section

noncomputable section

/-! # The scale of a group: the kernel's exponent arithmetic and the reference's logarithm

The kernel finds the exponent bits of a magnitude `r` by trying the bits of the exponent field from the highest down,
and builds the scale and its reciprocal as words. The reference takes `⌊log r / log 2⌋ + 1` and raises two to it. For
every `r` that is not negative the two give the same scale and the same reciprocal. -/

namespace Cert.Scale

open Idealize.ShloMosaic

/-! ## The two computations -/

/-- One step of the kernel's search. -/
def stepB (r : EReal) (b k : BitVec 32) : BitVec 32 :=
  if r < Ideal.ofBits .f32 (IntOp.ori b k) then b else IntOp.ori b k

/-- The exponent bits the kernel's search finds. -/
def bitsB (r : EReal) : BitVec 32 :=
  stepB r (stepB r (stepB r (stepB r (stepB r (stepB r (stepB r (stepB r 0#32 1073741824#32) 536870912#32) 268435456#32)
    134217728#32) 67108864#32) 33554432#32) 16777216#32) 8388608#32

/-- The bits the kernel goes on with: those of scale 1 for zero and for infinity. -/
def useB (b : BitVec 32) : BitVec 32 :=
  Scalar.select (IntOp.andi (IntOp.cmpi .ne b 0#32) (IntOp.cmpi .ne b 2139095040#32)) b 1056964608#32

/-- The kernel's scale. -/
def scaleB (r : EReal) : EReal := Ideal.ofBits .f32 (IntOp.addi (useB (bitsB r)) 8388608#32)

/-- The kernel's reciprocal of the scale. -/
def invB (r : EReal) : EReal := Ideal.ofBits .f32 (IntOp.subi 2122317824#32 (useB (bitsB r)))

/-- The reference's exponent before its range is tested. -/
def expR (r : EReal) : EReal := Ideal.liftRound Int.floor (Ideal.div (Ideal.log r) ((Real.log 2 : ℝ) : EReal)) + 1

/-- The reference's exponent: zero below the normal range and at infinity. -/
def useR (r : EReal) : EReal :=
  Scalar.select (IntOp.andi (BitVec.ofBool (decide (Ideal.ofBits .f32 0xC2FA0000#32 ≤ expR r)))
    (BitVec.ofBool (decide (r < Ideal.ofBits .f32 0x7F800000#32)))) (expR r) 0

/-- The reference's scale at exponent `e`. -/
def scaleR (e : EReal) : EReal := if e ≤ Ideal.ofBits .f32 0x42FE0000#32 then Ideal.exp2 e else Ideal.ofBits .f32 0x7F800000#32

/-- The reference's reciprocal of the scale at exponent `e`. -/
def invR (e : EReal) : EReal :=
  if e ≤ Ideal.ofBits .f32 0x42FC0000#32 then Ideal.exp2 (0 - e)
  else if e ≤ Ideal.ofBits .f32 0x42FE0000#32 then 0 else Ideal.ofBits .f32 0xFF800000#32

/-! ## The float of an exponent field -/

/-- The word with exponent field `E` and nothing else. -/
def word (E : ℕ) : BitVec 32 := BitVec.ofNat 32 (E <<< 23)

/-- Its value. -/
def val (E : ℕ) : EReal := if E = 0 then 0 else if E = 255 then ⊤ else (((2 : ℝ) ^ ((E : ℤ) - 127) : ℝ) : EReal)

theorem word_neg : ∀ E : Fin 256, (word E.val).extractLsb' 31 1 = 0#1 := by decide
theorem word_exp : ∀ E : Fin 256, ((word E.val).extractLsb' 23 8).toNat = E.val := by decide
theorem word_frac : ∀ E : Fin 256, ((word E.val).extractLsb' 0 23).toNat = 0 := by decide

theorem ofBits_word (E : ℕ) (hE : E < 256) : Ideal.ofBits .f32 (word E) = val E := by
  have h1 := word_neg ⟨E, hE⟩
  have h2 := word_exp ⟨E, hE⟩
  have h3 := word_frac ⟨E, hE⟩
  simp only at h1 h2 h3
  have hp : (2 ^ 8 - 1 : ℕ) = 255 := by norm_num
  have hn : (0#1 == 1#1) = false := by decide
  simp only [Ideal.ofBits, Ideal.ieee, Nat.reduceAdd, h1, h2, h3, val, hp, hn, Bool.false_eq_true, if_false, if_true]
  by_cases h255 : E = 255
  · rw [if_pos h255, if_neg (by omega : ¬ E = 0), if_pos h255]
  · by_cases h0 : E = 0
    · rw [if_neg h255, if_pos h0, if_pos h0]; simp
    · rw [if_neg h255, if_neg h0, if_neg h0, if_neg h255, one_mul]
      have h23 : ((2 ^ 23 + 0 : ℕ) : ℝ) = (2 : ℝ) ^ (23 : ℤ) := by norm_num
      have he : (23 : ℤ) + ((E : ℤ) - (2 ^ (8 - 1) - 1) - ((23 : ℕ) : ℤ)) = (E : ℤ) - 127 := by ring
      rw [h23, ← zpow_add₀ (by norm_num : (2 : ℝ) ≠ 0), he]

theorem val_lt {i j : ℕ} (h : i < j) (hj : j < 256) : val i < val j := by
  unfold val
  by_cases hi : i = 0
  · rw [if_pos hi, if_neg (by omega)]
    split_ifs
    · exact EReal.coe_lt_top 0
    · exact_mod_cast zpow_pos (by norm_num : (0 : ℝ) < 2) _
  · rw [if_neg hi, if_neg (by omega), if_neg (by omega)]
    split_ifs
    · exact EReal.coe_lt_top _
    · rw [EReal.coe_lt_coe_iff]
      exact zpow_lt_zpow_right₀ (by norm_num) (by omega)

theorem val_le {i j : ℕ} (h : i ≤ j) (hj : j < 256) : val i ≤ val j := by
  rcases h.lt_or_eq with h | rfl
  · exact (val_lt h hj).le
  · exact le_rfl

/-! ## The search finds the exponent -/

/-- `E` is the largest exponent field whose float is at most `r`. -/
structure IsExp (r : EReal) (E : ℕ) : Prop where
  lt : E < 256
  le : val E ≤ r
  top : E < 255 → r < val (E + 1)

theorem exists_isExp (r : EReal) (h : 0 ≤ r) : ∃ E, IsExp r E := by
  classical
  have h0 : val 0 ≤ r := by simpa [val] using h
  refine ⟨Nat.findGreatest (fun E => val E ≤ r) 255, ?_, ?_, ?_⟩
  · exact Nat.lt_succ_of_le (Nat.findGreatest_le _)
  · exact Nat.findGreatest_spec (P := fun E => val E ≤ r) (Nat.zero_le 255) h0
  · intro hlt
    exact not_le.mp (Nat.findGreatest_is_greatest (P := fun E => val E ≤ r) (Nat.lt_succ_self _) hlt)

theorem IsExp.test {r : EReal} {E : ℕ} (h : IsExp r E) {c : ℕ} (hc : c < 256) : r < val c ↔ E < c := by
  constructor
  · intro hr
    by_contra hn
    exact absurd (lt_of_lt_of_le hr ((val_le (not_lt.mp hn) h.lt).trans h.le)) (lt_irrefl _)
  · intro hE
    exact lt_of_lt_of_le (h.top (by omega)) (val_le hE hc)

theorem word_or (a b : ℕ) (ha : a < 256) (hb : b < 256) : IntOp.ori (word a) (word b) = word (a ||| b) := by
  have hor : a ||| b < 2 ^ 8 := Nat.or_lt_two_pow (n := 8) ha hb
  apply BitVec.eq_of_toNat_eq
  simp only [IntOp.ori, word, BitVec.toNat_or, BitVec.toNat_ofNat]
  rw [Nat.mod_eq_of_lt, Nat.mod_eq_of_lt, Nat.mod_eq_of_lt, Nat.shiftLeft_or_distrib]
  all_goals rw [Nat.shiftLeft_eq]; omega

/-- One step of the search on exponent fields. -/
def stepN (E B K : ℕ) : ℕ := if E < B ||| K then B else B ||| K

theorem stepN_lt {E B K : ℕ} (hB : B < 256) (hK : K < 256) : stepN E B K < 256 := by
  have hor : B ||| K < 2 ^ 8 := Nat.or_lt_two_pow (n := 8) hB hK
  unfold stepN; split_ifs <;> omega

theorem stepB_word {r : EReal} {E : ℕ} (h : IsExp r E) {B K : ℕ} (hB : B < 256) (hK : K < 256) :
    stepB r (word B) (word K) = word (stepN E B K) := by
  have hor : B ||| K < 2 ^ 8 := Nat.or_lt_two_pow (n := 8) hB hK
  unfold stepB stepN
  rw [word_or B K hB hK, ofBits_word _ hor]
  by_cases hE : E < B ||| K
  · rw [if_pos hE, if_pos ((h.test hor).mpr hE)]
  · rw [if_neg hE, if_neg (fun hr => hE ((h.test hor).mp hr))]

/-- The eight steps on exponent fields find `E`. -/
theorem steps_eq : ∀ E : Fin 256,
    stepN E (stepN E (stepN E (stepN E (stepN E (stepN E (stepN E (stepN E 0 128) 64) 32) 16) 8) 4) 2) 1 = E := by decide

theorem bitsB_eq {r : EReal} {E : ℕ} (h : IsExp r E) : bitsB r = word E := by
  unfold bitsB
  have h0 : (0#32 : BitVec 32) = word 0 := by decide
  have h1 : (1073741824#32 : BitVec 32) = word 128 := by decide
  have h2 : (536870912#32 : BitVec 32) = word 64 := by decide
  have h3 : (268435456#32 : BitVec 32) = word 32 := by decide
  have h4 : (134217728#32 : BitVec 32) = word 16 := by decide
  have h5 : (67108864#32 : BitVec 32) = word 8 := by decide
  have h6 : (33554432#32 : BitVec 32) = word 4 := by decide
  have h7 : (16777216#32 : BitVec 32) = word 2 := by decide
  have h8 : (8388608#32 : BitVec 32) = word 1 := by decide
  have l1 := stepN_lt (E := E) (B := 0) (K := 128) (by norm_num) (by norm_num)
  have l2 := stepN_lt (E := E) (K := 64) l1 (by norm_num)
  have l3 := stepN_lt (E := E) (K := 32) l2 (by norm_num)
  have l4 := stepN_lt (E := E) (K := 16) l3 (by norm_num)
  have l5 := stepN_lt (E := E) (K := 8) l4 (by norm_num)
  have l6 := stepN_lt (E := E) (K := 4) l5 (by norm_num)
  have l7 := stepN_lt (E := E) (K := 2) l6 (by norm_num)
  rw [h0, h1, h2, h3, h4, h5, h6, h7, h8, stepB_word h (by norm_num) (by norm_num), stepB_word h l1 (by norm_num),
    stepB_word h l2 (by norm_num), stepB_word h l3 (by norm_num), stepB_word h l4 (by norm_num),
    stepB_word h l5 (by norm_num), stepB_word h l6 (by norm_num), stepB_word h l7 (by norm_num)]
  exact congrArg word (steps_eq ⟨E, h.lt⟩)

/-- The exponent field the kernel goes on with. -/
def useE (E : ℕ) : ℕ := if E = 0 ∨ E = 255 then 126 else E

theorem useB_word : ∀ E : Fin 256, useB (word E) = word (useE E) := by decide

theorem add_word : ∀ E : Fin 255, IntOp.addi (word E) 8388608#32 = word (E + 1) := by decide

theorem sub_word : ∀ E : Fin 254, IntOp.subi 2122317824#32 (word E) = word (253 - E) := by decide

theorem sub_word_last : IntOp.subi 2122317824#32 (word 254) = 0xFF800000#32 := by decide

theorem useE_lt {E : ℕ} (h : E < 256) : useE E < 255 := by unfold useE; split_ifs <;> omega

theorem scaleB_eq {r : EReal} {E : ℕ} (h : IsExp r E) : scaleB r = val (useE E + 1) := by
  have hu := useE_lt h.lt
  unfold scaleB
  rw [bitsB_eq h, useB_word ⟨E, h.lt⟩, add_word ⟨useE E, hu⟩, ofBits_word _ (by simp only; omega)]

theorem invB_eq {r : EReal} {E : ℕ} (h : IsExp r E) : invB r = if useE E = 254 then ⊥ else val (253 - useE E) := by
  have hu := useE_lt h.lt
  unfold invB
  rw [bitsB_eq h, useB_word ⟨E, h.lt⟩]
  by_cases h254 : useE E = 254
  · rw [if_pos h254]
    show Ideal.ofBits .f32 (IntOp.subi 2122317824#32 (word (useE E))) = ⊥
    rw [h254, sub_word_last]
    simp [Ideal.ofBits, Ideal.ieee]
  · rw [if_neg h254, sub_word ⟨useE E, by omega⟩, ofBits_word _ (by simp only; omega)]

/-! ## The reference's logarithm finds the same exponent -/

theorem ofBits_top : Ideal.ofBits .f32 0x7F800000#32 = ⊤ := by simp [Ideal.ofBits, Ideal.ieee]
theorem ofBits_bot : Ideal.ofBits .f32 0xFF800000#32 = ⊥ := by simp [Ideal.ofBits, Ideal.ieee]
theorem ofBits_126 : Ideal.ofBits .f32 0x42FC0000#32 = ((126 : ℝ) : EReal) := by
  simp [Ideal.ofBits, Ideal.ieee, -EReal.coe_mul]; norm_num
theorem ofBits_127 : Ideal.ofBits .f32 0x42FE0000#32 = ((127 : ℝ) : EReal) := by
  simp [Ideal.ofBits, Ideal.ieee, -EReal.coe_mul]; norm_num
theorem ofBits_m125 : Ideal.ofBits .f32 0xC2FA0000#32 = ((-125 : ℝ) : EReal) := by
  simp [Ideal.ofBits, Ideal.ieee, -EReal.coe_mul, -EReal.coe_neg]; norm_num

theorem log_two_pos : (0 : ℝ) < Real.log 2 := Real.log_pos (by norm_num)

theorem expR_zero : expR 0 = ⊥ := by
  have h : ((Real.log 2 : ℝ) : EReal) ≠ 0 := by exact_mod_cast log_two_pos.ne'
  have hl : Ideal.log 0 = ⊥ := by
    show (if (0 : ℝ) ≤ 0 then (⊥ : EReal) else _) = ⊥
    simp
  have hi : ((Real.log 2 : ℝ) : EReal)⁻¹ = (((Real.log 2)⁻¹ : ℝ) : EReal) := by norm_cast
  unfold expR Ideal.div
  rw [hl, if_neg h, hi, EReal.bot_mul_coe_of_pos (inv_pos.mpr log_two_pos)]
  show (⊥ : EReal) + 1 = ⊥
  exact EReal.bot_add _

theorem expR_coe {x : ℝ} (hx : 0 < x) : expR (x : EReal) = (((⌊Real.log x / Real.log 2⌋ + 1 : ℤ) : ℝ) : EReal) := by
  have h : ((Real.log 2 : ℝ) : EReal) ≠ 0 := by exact_mod_cast log_two_pos.ne'
  have hl : Ideal.log (x : EReal) = ((Real.log x : ℝ) : EReal) := by
    show (if x ≤ 0 then (⊥ : EReal) else _) = _
    rw [if_neg (not_le.mpr hx)]
  have hi : ((Real.log 2 : ℝ) : EReal)⁻¹ = (((Real.log 2)⁻¹ : ℝ) : EReal) := by norm_cast
  unfold expR Ideal.div
  rw [hl, if_neg h, hi, ← EReal.coe_mul, ← div_eq_mul_inv]
  show (((⌊Real.log x / Real.log 2⌋ : ℤ) : ℝ) : EReal) + 1 = _
  push_cast
  rfl

/-- `⌊log x / log 2⌋` at least `n` says that `x` is at least `2 ^ n`. -/
theorem le_floor_log {x : ℝ} (hx : 0 < x) (n : ℤ) : n ≤ ⌊Real.log x / Real.log 2⌋ ↔ (2 : ℝ) ^ n ≤ x := by
  rw [Int.le_floor, le_div_iff₀ log_two_pos, ← Real.log_zpow, Real.log_le_log_iff (zpow_pos (by norm_num) _) hx]

theorem exp2_int (n : ℤ) : Ideal.exp2 (((n : ℝ)) : EReal) = (((2 : ℝ) ^ n : ℝ) : EReal) := by
  rw [Ideal.exp2_coe]
  congr 1
  exact Real.rpow_intCast 2 n

theorem scaleR_int (n : ℤ) : scaleR ((n : ℝ) : EReal) = if n ≤ 127 then (((2 : ℝ) ^ n : ℝ) : EReal) else ⊤ := by
  unfold scaleR
  rw [ofBits_127, ofBits_top, exp2_int]
  congr 1
  rw [EReal.coe_le_coe_iff, eq_iff_iff]
  exact_mod_cast Iff.rfl

theorem invR_int (n : ℤ) : invR ((n : ℝ) : EReal) = if n ≤ 126 then (((2 : ℝ) ^ (-n) : ℝ) : EReal) else if n ≤ 127 then 0 else ⊥ := by
  unfold invR
  have h0 : (0 : EReal) - ((n : ℝ) : EReal) = (((-n : ℤ) : ℝ) : EReal) := by
    rw [zero_sub]; push_cast; rfl
  have a : ((n : ℝ) : EReal) ≤ ((126 : ℝ) : EReal) ↔ n ≤ 126 := by rw [EReal.coe_le_coe_iff]; exact_mod_cast Iff.rfl
  have b : ((n : ℝ) : EReal) ≤ ((127 : ℝ) : EReal) ↔ n ≤ 127 := by rw [EReal.coe_le_coe_iff]; exact_mod_cast Iff.rfl
  rw [ofBits_126, ofBits_127, ofBits_bot, h0, exp2_int]
  simp only [a, b]

theorem select_and (p q : Prop) [Decidable p] [Decidable q] (x y : EReal) :
    Scalar.select (IntOp.andi (BitVec.ofBool (decide p)) (BitVec.ofBool (decide q))) x y = if p ∧ q then x else y := by
  by_cases hp : p <;> by_cases hq : q <;> simp [Scalar.select, IntOp.andi, hp, hq]

theorem useR_eq (r : EReal) : useR r = if ((-125 : ℝ) : EReal) ≤ expR r ∧ r < ⊤ then expR r else 0 := by
  unfold useR
  rw [select_and, ofBits_m125, ofBits_top]

/-- The reference's exponent, as an integer, against the exponent field: zero for fields 0 and 255, the field less 126
    below field 254, and above 127 at field 254 (where the float of the next field is infinity). -/
theorem useR_isExp {r : EReal} {E : ℕ} (h : IsExp r E) :
    ∃ n : ℤ, useR r = ((n : ℝ) : EReal) ∧
      (if E = 0 ∨ E = 255 then n = 0 else if E = 254 then 128 ≤ n else n = (E : ℤ) - 126) := by
  rw [useR_eq]
  have hnn : (0 : EReal) ≤ r := (val_le (Nat.zero_le E) h.lt |>.trans h.le) |> fun h' => by simpa [val] using h'
  induction r using EReal.rec with
  | bot => simp at hnn
  | top =>
    have hE : E = 255 := by
      by_contra hne
      have := h.top (by have := h.lt; omega)
      exact absurd this not_top_lt
    refine ⟨0, ?_, ?_⟩
    · rw [if_neg (fun hh => lt_irrefl _ hh.2)]; simp
    · rw [if_pos (Or.inr hE)]
  | coe x =>
    have hx0 : 0 ≤ x := by exact_mod_cast hnn
    have hE255 : E ≠ 255 := by
      intro he
      have := h.le
      rw [he] at this
      simp [val] at this
    have hlt := h.top (by have := h.lt; omega)
    by_cases hE0 : E = 0
    · refine ⟨0, ?_, by rw [if_pos (Or.inl hE0)]⟩
      rw [if_neg]; · simp
      rintro ⟨hge, -⟩
      rcases hx0.lt_or_eq with hx | hx
      · rw [expR_coe hx, EReal.coe_le_coe_iff] at hge
        have hge' : (-126 : ℤ) ≤ ⌊Real.log x / Real.log 2⌋ := by
          have : (-125 : ℤ) ≤ ⌊Real.log x / Real.log 2⌋ + 1 := by exact_mod_cast hge
          omega
        rw [le_floor_log hx] at hge'
        rw [hE0] at hlt
        simp only [val, zero_add, one_ne_zero, if_false] at hlt
        rw [if_neg (by norm_num), EReal.coe_lt_coe_iff] at hlt
        norm_num at hlt hge'
        exact absurd (lt_of_lt_of_le hlt hge') (lt_irrefl _)
      · rw [← hx, EReal.coe_zero, expR_zero] at hge
        simp at hge
    · have hle := h.le
      rw [val, if_neg hE0, if_neg hE255, EReal.coe_le_coe_iff] at hle
      have hx : 0 < x := lt_of_lt_of_le (zpow_pos (by norm_num) _) hle
      have hfl := (le_floor_log hx ((E : ℤ) - 127)).mpr hle
      refine ⟨⌊Real.log x / Real.log 2⌋ + 1, ?_, ?_⟩
      · rw [expR_coe hx, if_pos]
        refine ⟨?_, EReal.coe_lt_top _⟩
        rw [EReal.coe_le_coe_iff]
        have : (-125 : ℤ) ≤ ⌊Real.log x / Real.log 2⌋ + 1 := by omega
        exact_mod_cast this
      · rw [if_neg (by omega)]
        by_cases h254 : E = 254
        · rw [if_pos h254]; omega
        · rw [if_neg h254]
          have hlt' : x < (2 : ℝ) ^ ((E : ℤ) - 126) := by
            rw [val, if_neg (by omega), if_neg (by omega), EReal.coe_lt_coe_iff] at hlt
            have he : (((E + 1 : ℕ) : ℤ) - 127) = (E : ℤ) - 126 := by push_cast; ring
            rwa [he] at hlt
          have : ¬ ((E : ℤ) - 126 ≤ ⌊Real.log x / Real.log 2⌋) := by
            rw [le_floor_log hx]; exact not_le.mpr hlt'
          omega

/-! ## The two agree -/

theorem scaleB_eq_scaleR (r : EReal) (h : 0 ≤ r) : scaleB r = scaleR (useR r) := by
  obtain ⟨E, hE⟩ := exists_isExp r h
  obtain ⟨n, hn, hc⟩ := useR_isExp hE
  have hlt := hE.lt
  rw [scaleB_eq hE, hn, scaleR_int]
  unfold useE val
  by_cases h0 : E = 0 ∨ E = 255
  · rw [if_pos h0] at hc ⊢
    subst hc
    simp
  · rw [if_neg h0] at hc ⊢
    by_cases h254 : E = 254
    · rw [if_pos h254] at hc
      rw [if_neg (by omega), if_pos (by omega), if_neg (by omega)]
    · rw [if_neg h254] at hc
      rw [if_neg (by omega), if_neg (by omega), if_pos (by omega), hc]
      congr 2
      push_cast; ring

theorem invB_eq_invR (r : EReal) (h : 0 ≤ r) : invB r = invR (useR r) := by
  obtain ⟨E, hE⟩ := exists_isExp r h
  obtain ⟨n, hn, hc⟩ := useR_isExp hE
  have hlt := hE.lt
  rw [invB_eq hE, hn, invR_int]
  unfold useE val
  by_cases h0 : E = 0 ∨ E = 255
  · rw [if_pos h0] at hc ⊢
    subst hc
    simp
  · rw [if_neg h0] at hc ⊢
    by_cases h254 : E = 254
    · rw [if_pos h254] at hc
      rw [if_pos h254, if_neg (by omega), if_neg (by omega)]
    · rw [if_neg h254] at hc
      rw [if_neg h254]
      by_cases h253 : E = 253
      · rw [if_pos (by omega), if_neg (by omega), if_pos (by omega)]
      · rw [if_neg (by omega), if_neg (by omega), if_pos (by omega), hc]
        congr 2
        omega

end Cert.Scale

end
-- ==== Proof.Spec.lean ====
module

public import proofs.«01_k».proof.Proof.Scale
public import Idealize.ShloMosaic.Lib.Pointwise

@[expose] public section

noncomputable section

/-! # What both programs compute, element by element

The arguments are read as functions of natural coordinates (rows flattened over the two batches), zero outside their
extents. -/

namespace Cert.Spec

open Idealize.ShloMosaic Cert.Scale

/-- The arguments by coordinates: codes and scales of the rows, codes and scales of the two weights. -/
structure Args where
  x : ℕ → ℕ → EReal
  xs : ℕ → EReal
  wg : ℕ → ℕ → EReal
  wgs : ℕ → EReal
  wu : ℕ → ℕ → EReal
  wus : ℕ → EReal

/-- The arguments as the two programs are given them. -/
def argsOf (x : (⟨3, ![2, 6144, 3584]⟩ : Shape).Idx → EReal) (xs : (⟨2, ![2, 6144]⟩ : Shape).Idx → EReal)
    (wg : (⟨2, ![9472, 3584]⟩ : Shape).Idx → EReal) (wgs : (⟨1, ![9472]⟩ : Shape).Idx → EReal)
    (wu : (⟨2, ![9472, 3584]⟩ : Shape).Idx → EReal) (wus : (⟨1, ![9472]⟩ : Shape).Idx → EReal) : Args where
  x p k := if h : p < 12288 ∧ k < 3584 then x (ix3 ⟨p / 6144, by omega⟩ ⟨p % 6144, by omega⟩ ⟨k, h.2⟩) else 0
  xs p := if h : p < 12288 then xs (ix2 ⟨p / 6144, by omega⟩ ⟨p % 6144, by omega⟩) else 0
  wg q k := if h : q < 9472 ∧ k < 3584 then wg (ix2 ⟨q, h.1⟩ ⟨k, h.2⟩) else 0
  wgs q := if h : q < 9472 then wgs (ix1 ⟨q, h⟩) else 0
  wu q k := if h : q < 9472 ∧ k < 3584 then wu (ix2 ⟨q, h.1⟩ ⟨k, h.2⟩) else 0
  wus q := if h : q < 9472 then wus (ix1 ⟨q, h⟩) else 0

variable (a : Args)

/-- The gate projection of row `p`, column `q`, scaled. -/
def gate (p q : ℕ) : EReal := (∑ k : Fin 3584, a.x p k * a.wg q k) * (a.xs p * a.wgs q)

/-- The up projection of row `p`, column `q`, scaled. -/
def up (p q : ℕ) : EReal := (∑ k : Fin 3584, a.x p k * a.wu q k) * (a.xs p * a.wus q)

/-- The SwiGLU value of row `p`, column `q`. -/
def hv (p q : ℕ) : EReal := gate a p q * Ideal.logistic (gate a p q) * up a p q

/-- The largest magnitude of row `p` over the 128 columns of group `j`. -/
def amax (p j : ℕ) : EReal :=
  Finset.fold max (Ideal.ofBits .f32 0xFF800000#32) (fun l : Fin 128 => max (hv a p (j * 128 + l)) (-hv a p (j * 128 + l))) Finset.univ

/-- That magnitude over 448: what the exponent is taken of. -/
def ratio (p j : ℕ) : EReal := amax a p j * Ideal.ofBits .f32 0x3B124925#32

/-- The scale of row `p`, group `j`. -/
def scale (p j : ℕ) : EReal := scaleR (useR (ratio a p j))

/-- The code of row `p`, column `q`. -/
def code (p q : ℕ) : EReal :=
  min (Ideal.ofBits .f32 0x43E00000#32) (max (Ideal.ofBits .f32 0xC3E00000#32) (hv a p q * invR (useR (ratio a p (q / 128)))))

theorem abs_nonneg (x : EReal) : 0 ≤ max x (-x) := by
  rcases le_total 0 x with h | h
  · exact le_max_of_le_left h
  · exact le_max_of_le_right (EReal.neg_nonneg.mpr h)

theorem abs_of_nonneg {x : EReal} (h : 0 ≤ x) : max x (-x) = x :=
  max_eq_left ((EReal.neg_le_zero.mpr h).trans h)

theorem ratio_nonneg (p j : ℕ) : 0 ≤ ratio a p j := by
  refine mul_nonneg ?_ ?_
  · unfold amax
    rw [Finset.le_fold_max]
    exact Or.inr ⟨0, Finset.mem_univ _, abs_nonneg _⟩
  · simp [Ideal.ofBits, Ideal.ieee, -EReal.coe_mul]

end Cert.Spec

end
-- ==== Proof.KPoint.lean ====
module

public import proofs.«01_k».proof.Proof.Tile
public import proofs.«01_k».proof.Proof.Spec
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe
open Cert.Spec Cert.Scale

/-! # One run of the body, element by element -/

/-! ## A group's scale and codes -/

theorem stepBits_apply (r : FVec Ideal S256x1 .f32) (b : IVec S256x1 32) (k : BitVec 32) (p : Fin 256) :
    stepBits r b k (ix2 p 0) = stepB (r (ix2 p 0)) (b (ix2 p 0)) k := by
  pointwise [stepBits]
  rfl

theorem expBits_apply (r : FVec Ideal S256x1 .f32) (p : Fin 256) : expBits r (ix2 p 0) = bitsB (r (ix2 p 0)) := by
  unfold expBits bitsB
  simp only [stepBits_apply]
  rfl

theorem useBits_apply (b : IVec S256x1 32) (p : Fin 256) : useBits b (ix2 p 0) = useB (b (ix2 p 0)) := by
  pointwise [useBits]
  rfl

/-- `g` holds the SwiGLU values of rows `P0 + p` in group `j`. -/
def Holds (a : Args) (P0 j : ℕ) (g : FVec Ideal S256x128 .f32) : Prop :=
  ∀ (p : Fin 256) (l : Fin 128), g (ix2 p l) = hv a (P0 + p) (j * 128 + l)

theorem ratio_apply {a : Args} {P0 j : ℕ} {g : FVec Ideal S256x128 .f32} (h : Holds a P0 j g) (p : Fin 256) :
    ratio g (ix2 p 0) = Spec.ratio a (P0 + p) j := by
  refine Eq.trans ?_ (abs_of_nonneg (ratio_nonneg a (P0 + p) j))
  pointwise [ratio]
  simp only [h p]
  rfl

theorem scaleOf_apply {a : Args} {P0 j : ℕ} {g : FVec Ideal S256x128 .f32} (h : Holds a P0 j g) (p : Fin 256) :
    scaleOf g (ix2 p 0) = Spec.scale a (P0 + p) j := by
  unfold Spec.scale
  rw [← scaleB_eq_scaleR _ (ratio_nonneg a (P0 + p) j), ← ratio_apply h p]
  pointwise [scaleOf]
  rw [useBits_apply, expBits_apply]
  rfl

theorem invOf_apply {a : Args} {P0 j : ℕ} {g : FVec Ideal S256x128 .f32} (h : Holds a P0 j g) (p : Fin 256) :
    invOf g (ix2 p 0) = invR (useR (Spec.ratio a (P0 + p) j)) := by
  rw [← invB_eq_invR _ (ratio_nonneg a (P0 + p) j), ← ratio_apply h p]
  pointwise [invOf]
  rw [useBits_apply, expBits_apply]
  rfl

theorem codesOf_apply {a : Args} {P0 j : ℕ} {g : FVec Ideal S256x128 .f32} (h : Holds a P0 j g) (p : Fin 256) (l : Fin 128) :
    codesOf g (ix2 p l) = code a (P0 + p) (j * 128 + l) := by
  have hj : (j * 128 + l.val) / 128 = j := by omega
  unfold code
  rw [hj, ← invOf_apply h p, ← h p l]
  pointwise [codesOf]

/-! ## The SwiGLU block -/

/-- The six input blocks hold the arguments at rows from `P0` and columns from `Q0`. -/
structure Reads (a : Args) (P0 Q0 : ℕ) (x0 : Vec Ideal S1024x3584 .fp8e4m3) (x1 : Vec Ideal S1024x1 .f32) (x2 : Vec Ideal S256x3584 .fp8e4m3) (x3 : Vec Ideal S1x256 .f32)
    (x4 : Vec Ideal S256x3584 .fp8e4m3) (x5 : Vec Ideal S1x256 .f32) : Prop where
  h0 : ∀ (p : Fin 1024) (k : Fin 3584), x0 (ix2 p k) = a.x (P0 + p) k
  h1 : ∀ p : Fin 1024, x1 (ix2 p 0) = a.xs (P0 + p)
  h2 : ∀ (q : Fin 256) (k : Fin 3584), x2 (ix2 q k) = a.wg (Q0 + q) k
  h3 : ∀ q : Fin 256, x3 (ix2 0 q) = a.wgs (Q0 + q)
  h4 : ∀ (q : Fin 256) (k : Fin 3584), x4 (ix2 q k) = a.wu (Q0 + q) k
  h5 : ∀ q : Fin 256, x5 (ix2 0 q) = a.wus (Q0 + q)

theorem hBlk_apply (x : Vec Ideal S256x3584 .fp8e4m3) (xs : Vec Ideal S256x1 .f32) (wg : Vec Ideal S256x3584 .fp8e4m3) (wgs : Vec Ideal S1x256 .f32)
    (wu : Vec Ideal S256x3584 .fp8e4m3) (wus : Vec Ideal S1x256 .f32) (p q : Fin 256) :
    hBlk x xs wg wgs wu wus (ix2 p q)
      = (∑ k, x (ix2 p k) * wg (ix2 q k)) * (xs (ix2 p 0) * wgs (ix2 0 q))
        * Ideal.logistic ((∑ k, x (ix2 p k) * wg (ix2 q k)) * (xs (ix2 p 0) * wgs (ix2 0 q)))
        * ((∑ k, x (ix2 p k) * wu (ix2 q k)) * (xs (ix2 p 0) * wus (ix2 0 q))) := by
  pointwise [hBlk, k0_pay2]
  unfold Ideal.logistic
  rw [zero_sub]

section
variable {a : Args} {P0 Q0 : ℕ} {x0 : Vec Ideal S1024x3584 .fp8e4m3} {x1 : Vec Ideal S1024x1 .f32} {x2 : Vec Ideal S256x3584 .fp8e4m3} {x3 : Vec Ideal S1x256 .f32}
    {x4 : Vec Ideal S256x3584 .fp8e4m3} {x5 : Vec Ideal S1x256 .f32} (h : Reads a P0 Q0 x0 x1 x2 x3 x4 x5) (p q : Fin 256)
include h

theorem hAt0_apply : hAt0 x0 x1 x2 x3 x4 x5 (ix2 p q) = hv a (P0 + 0 + p) (Q0 + q) := by
  rw [hAt0, hBlk_apply]
  pointwise
  simp only [h.h0, h.h1, h.h2, h.h3, h.h4, h.h5]
  simp only [hv, gate, up, add_zero, zero_add]

theorem hAt256_apply : hAt256 x0 x1 x2 x3 x4 x5 (ix2 p q) = hv a (P0 + 256 + p) (Q0 + q) := by
  rw [hAt256, hBlk_apply]
  pointwise
  simp only [h.h0, h.h1, h.h2, h.h3, h.h4, h.h5]
  simp only [hv, gate, up, add_assoc]

theorem hAt512_apply : hAt512 x0 x1 x2 x3 x4 x5 (ix2 p q) = hv a (P0 + 512 + p) (Q0 + q) := by
  rw [hAt512, hBlk_apply]
  pointwise
  simp only [h.h0, h.h1, h.h2, h.h3, h.h4, h.h5]
  simp only [hv, gate, up, add_assoc]

theorem hAt768_apply : hAt768 x0 x1 x2 x3 x4 x5 (ix2 p q) = hv a (P0 + 768 + p) (Q0 + q) := by
  rw [hAt768, hBlk_apply]
  pointwise
  simp only [h.h0, h.h1, h.h2, h.h3, h.h4, h.h5]
  simp only [hv, gate, up, add_assoc]

end

theorem grp0_holds {a : Args} {P0 n : ℕ} {g : FVec Ideal S256x256 .f32} (h : ∀ p q : Fin 256, g (ix2 p q) = hv a (P0 + p) (256 * n + q)) :
    Holds a P0 (2 * n) (grp0 g) := fun p l => by
  pointwise [grp0]
  rw [h]
  congr 1
  simp only
  omega

theorem grp1_holds {a : Args} {P0 n : ℕ} {g : FVec Ideal S256x256 .f32} (h : ∀ p q : Fin 256, g (ix2 p q) = hv a (P0 + p) (256 * n + q)) :
    Holds a P0 (2 * n + 1) (grp1 g) := fun p l => by
  pointwise [grp1]
  rw [h]
  congr 1
  simp only
  omega

/-! ## The stored blocks -/

theorem lane_eq : ∀ (l : Fin 74) (n : Fin 37), IntOp.cmpi .eq (BitVec.ofNat 32 l.val) (Scalar.addi (Scalar.muli (BitVec.ofNat 32 n.val) 2#32) 0#32)
    = BitVec.ofBool (decide (l.val = 2 * n.val)) := by decide +kernel

theorem lane_eq' : ∀ (l : Fin 74) (n : Fin 37), IntOp.cmpi .eq (BitVec.ofNat 32 l.val) (Scalar.addi (Scalar.muli (BitVec.ofNat 32 n.val) 2#32) 1#32)
    = BitVec.ofBool (decide (l.val = 2 * n.val + 1)) := by decide +kernel

theorem select_ofBool (P : Prop) [Decidable P] (x y : EReal) : Scalar.select (BitVec.ofBool (decide P)) x y = if P then x else y := by
  by_cases hP : P <;> simp [Scalar.select, hP]

/-- What the body leaves at row `p`, lane `l`, over `X`, at column tile `n`. -/
def over (a : Args) (P0 n : ℕ) (X : Vec Ideal S1024x74 .f32) : Vec Ideal S1024x74 .f32 := fun y =>
  if (y 1).val = 2 * n ∨ (y 1).val = 2 * n + 1 then Spec.scale a (P0 + (y 0).val) (y 1).val else X y

theorem accBlk_apply {a : Args} {P0 n : ℕ} (hn : n < 37) {g : FVec Ideal S256x256 .f32}
    (h : ∀ p q : Fin 256, g (ix2 p q) = hv a (P0 + p) (256 * n + q)) (acc : FVec Ideal S256x74 .f32) (p : Fin 256) (l : Fin 74) :
    accBlk (BitVec.ofNat 32 n) g acc (ix2 p l) = if l.val = 2 * n ∨ l.val = 2 * n + 1 then Spec.scale a (P0 + p) l.val else acc (ix2 p l) := by
  pointwise [accBlk, accOf]
  rw [scaleOf_apply (grp0_holds h), scaleOf_apply (grp1_holds h), lane_eq l ⟨n, hn⟩, lane_eq' l ⟨n, hn⟩, select_ofBool, select_ofBool]
  simp only
  by_cases h1 : l.val = 2 * n + 1
  · rw [if_pos h1, if_pos (Or.inr h1), h1]
  · by_cases h0 : l.val = 2 * n
    · rw [if_neg h1, if_pos h0, if_pos (Or.inl h0), h0]
    · rw [if_neg h1, if_neg h0, if_neg (by tauto)]

section
variable {a : Args} {P0 n : ℕ} {x0 : Vec Ideal S1024x3584 .fp8e4m3} {x1 : Vec Ideal S1024x1 .f32} {x2 : Vec Ideal S256x3584 .fp8e4m3} {x3 : Vec Ideal S1x256 .f32}
    {x4 : Vec Ideal S256x3584 .fp8e4m3} {x5 : Vec Ideal S1x256 .f32} (h : Reads a P0 (256 * n) x0 x1 x2 x3 x4 x5)
include h

/-- The scales the body leaves over `X`. -/
theorem scaleBlk_apply (hn : n < 37) (X : Vec Ideal S1024x74 .f32) (y : S1024x74.Idx) :
    scaleBlk (BitVec.ofNat 32 n) x0 x1 x2 x3 x4 x5 X y = over a P0 n X y := by
  refine View.canon_apply_of_pieces (over a P0 n X) _ ?_ y (scale_cover _ x0 x1 x2 x3 x4 x5 X y)
  intro pc hpc x
  simp only [scalePieces, List.mem_cons, List.not_mem_nil, or_false] at hpc
  rcases hpc with rfl | rfl | rfl | rfl
  · obtain ⟨p, l, rfl⟩ : ∃ (p : Fin 256) (l : Fin 74), x = ix2 p l := ⟨x 0, x 1, by idx_ext⟩
    refine (accBlk_apply hn (hAt768_apply h) _ p l).trans ?_
    show _ = over a P0 n X ((Rect.unit (s := S1024x74) ![768, 0] S256x74.size inb_S1024x74_S256x74_768_0).idx (ix2 p l))
    pointwise [over]
    try simp only [add_assoc, zero_add]
  · obtain ⟨p, l, rfl⟩ : ∃ (p : Fin 256) (l : Fin 74), x = ix2 p l := ⟨x 0, x 1, by idx_ext⟩
    refine (accBlk_apply hn (hAt512_apply h) _ p l).trans ?_
    show _ = over a P0 n X ((Rect.unit (s := S1024x74) ![512, 0] S256x74.size inb_S1024x74_S256x74_512_0).idx (ix2 p l))
    pointwise [over]
    try simp only [add_assoc, zero_add]
  · obtain ⟨p, l, rfl⟩ : ∃ (p : Fin 256) (l : Fin 74), x = ix2 p l := ⟨x 0, x 1, by idx_ext⟩
    refine (accBlk_apply hn (hAt256_apply h) _ p l).trans ?_
    show _ = over a P0 n X ((Rect.unit (s := S1024x74) ![256, 0] S256x74.size inb_S1024x74_S256x74_256_0).idx (ix2 p l))
    pointwise [over]
    try simp only [add_assoc, zero_add]
  · obtain ⟨p, l, rfl⟩ : ∃ (p : Fin 256) (l : Fin 74), x = ix2 p l := ⟨x 0, x 1, by idx_ext⟩
    refine (accBlk_apply hn (hAt0_apply h) _ p l).trans ?_
    show _ = over a P0 n X ((Rect.unit (s := S1024x74) ![0, 0] S256x74.size inb_S1024x74_S256x74_0_0).idx (ix2 p l))
    pointwise [over]
    try simp only [add_assoc, zero_add]

/-- The codes the body leaves. -/
theorem codesBlk_apply (y : S1024x256.Idx) :
    codesBlk x0 x1 x2 x3 x4 x5 y = code a (P0 + (y 0).val) (256 * n + (y 1).val) := by
  refine View.canon_apply_of_pieces (fun y => code a (P0 + (y 0).val) (256 * n + (y 1).val)) _ ?_ y (codes_cover x0 x1 x2 x3 x4 x5 y)
  intro pc hpc x
  simp only [codesPieces, List.mem_cons, List.not_mem_nil, or_false] at hpc
  rcases hpc with rfl | rfl | rfl | rfl | rfl | rfl | rfl | rfl
  · obtain ⟨p, l, rfl⟩ : ∃ (p : Fin 256) (l : Fin 128), x = ix2 p l := ⟨x 0, x 1, by idx_ext⟩
    refine (codesOf_apply (grp1_holds (hAt768_apply h)) p l).trans ?_
    show _ = code a (P0 + (((Rect.unit (s := S1024x256) ![768, 128] S256x128.size inb_S1024x256_S256x128_768_128).idx (ix2 p l)) 0).val)
      (256 * n + (((Rect.unit (s := S1024x256) ![768, 128] S256x128.size inb_S1024x256_S256x128_768_128).idx (ix2 p l)) 1).val)
    pointwise
    congr 1 <;> omega
  · obtain ⟨p, l, rfl⟩ : ∃ (p : Fin 256) (l : Fin 128), x = ix2 p l := ⟨x 0, x 1, by idx_ext⟩
    refine (codesOf_apply (grp0_holds (hAt768_apply h)) p l).trans ?_
    show _ = code a (P0 + (((Rect.unit (s := S1024x256) ![768, 0] S256x128.size inb_S1024x256_S256x128_768_0).idx (ix2 p l)) 0).val)
      (256 * n + (((Rect.unit (s := S1024x256) ![768, 0] S256x128.size inb_S1024x256_S256x128_768_0).idx (ix2 p l)) 1).val)
    pointwise
    congr 1 <;> omega
  · obtain ⟨p, l, rfl⟩ : ∃ (p : Fin 256) (l : Fin 128), x = ix2 p l := ⟨x 0, x 1, by idx_ext⟩
    refine (codesOf_apply (grp1_holds (hAt512_apply h)) p l).trans ?_
    show _ = code a (P0 + (((Rect.unit (s := S1024x256) ![512, 128] S256x128.size inb_S1024x256_S256x128_512_128).idx (ix2 p l)) 0).val)
      (256 * n + (((Rect.unit (s := S1024x256) ![512, 128] S256x128.size inb_S1024x256_S256x128_512_128).idx (ix2 p l)) 1).val)
    pointwise
    congr 1 <;> omega
  · obtain ⟨p, l, rfl⟩ : ∃ (p : Fin 256) (l : Fin 128), x = ix2 p l := ⟨x 0, x 1, by idx_ext⟩
    refine (codesOf_apply (grp0_holds (hAt512_apply h)) p l).trans ?_
    show _ = code a (P0 + (((Rect.unit (s := S1024x256) ![512, 0] S256x128.size inb_S1024x256_S256x128_512_0).idx (ix2 p l)) 0).val)
      (256 * n + (((Rect.unit (s := S1024x256) ![512, 0] S256x128.size inb_S1024x256_S256x128_512_0).idx (ix2 p l)) 1).val)
    pointwise
    congr 1 <;> omega
  · obtain ⟨p, l, rfl⟩ : ∃ (p : Fin 256) (l : Fin 128), x = ix2 p l := ⟨x 0, x 1, by idx_ext⟩
    refine (codesOf_apply (grp1_holds (hAt256_apply h)) p l).trans ?_
    show _ = code a (P0 + (((Rect.unit (s := S1024x256) ![256, 128] S256x128.size inb_S1024x256_S256x128_256_128).idx (ix2 p l)) 0).val)
      (256 * n + (((Rect.unit (s := S1024x256) ![256, 128] S256x128.size inb_S1024x256_S256x128_256_128).idx (ix2 p l)) 1).val)
    pointwise
    congr 1 <;> omega
  · obtain ⟨p, l, rfl⟩ : ∃ (p : Fin 256) (l : Fin 128), x = ix2 p l := ⟨x 0, x 1, by idx_ext⟩
    refine (codesOf_apply (grp0_holds (hAt256_apply h)) p l).trans ?_
    show _ = code a (P0 + (((Rect.unit (s := S1024x256) ![256, 0] S256x128.size inb_S1024x256_S256x128_256_0).idx (ix2 p l)) 0).val)
      (256 * n + (((Rect.unit (s := S1024x256) ![256, 0] S256x128.size inb_S1024x256_S256x128_256_0).idx (ix2 p l)) 1).val)
    pointwise
    congr 1 <;> omega
  · obtain ⟨p, l, rfl⟩ : ∃ (p : Fin 256) (l : Fin 128), x = ix2 p l := ⟨x 0, x 1, by idx_ext⟩
    refine (codesOf_apply (grp1_holds (hAt0_apply h)) p l).trans ?_
    show _ = code a (P0 + (((Rect.unit (s := S1024x256) ![0, 128] S256x128.size inb_S1024x256_S256x128_0_128).idx (ix2 p l)) 0).val)
      (256 * n + (((Rect.unit (s := S1024x256) ![0, 128] S256x128.size inb_S1024x256_S256x128_0_128).idx (ix2 p l)) 1).val)
    pointwise
    congr 1 <;> omega
  · obtain ⟨p, l, rfl⟩ : ∃ (p : Fin 256) (l : Fin 128), x = ix2 p l := ⟨x 0, x 1, by idx_ext⟩
    refine (codesOf_apply (grp0_holds (hAt0_apply h)) p l).trans ?_
    show _ = code a (P0 + (((Rect.unit (s := S1024x256) ![0, 0] S256x128.size inb_S1024x256_S256x128_0_0).idx (ix2 p l)) 0).val)
      (256 * n + (((Rect.unit (s := S1024x256) ![0, 0] S256x128.size inb_S1024x256_S256x128_0_0).idx (ix2 p l)) 1).val)
    pointwise
    congr 1 <;> omega

end

end Cert.KernelIdeal.Hand
-- ==== Proof.Reads.lean ====
module

public import proofs.«01_k».proof.Proof.KPoint
public import proofs.«01_k».proof.Proof.Gen.KernelIdeal.Frame
public import Idealize.ShloMosaic.Lib.Pipeline.ValueKit
public import Idealize.ShloMosaic.Lib.Pipeline.ValueKit.Point
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe
open Cert.Spec

/-! # The blocks a grid point works on, read off the arguments -/

variable (m : (ℓ : Loc nD τ sig) → Buf (Elt Ideal) ℓ)

/-- The arguments of core `c` by coordinates. -/
def argsK (c : Dev nD) : Args :=
  argsOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem coord0 (t : Fin cfg0.N) : (grid0.coords t 0).val = t.val / 37 :=
  (by decide +kernel : ∀ t : Fin grid0.N, (grid0.coords t 0).val = t.val / 37) t

theorem coord1 (t : Fin cfg0.N) : (grid0.coords t 1).val = t.val % 37 :=
  (by decide +kernel : ∀ t : Fin grid0.N, (grid0.coords t 1).val = t.val % 37) t

theorem idx0 (t : Fin cfg0.N) : win0_0.index t = ![t.val / 37, 0] :=
  (by decide +kernel : ∀ t : Fin grid0.N, win0_0.index t = ![t.val / 37, 0]) t
theorem idx1 (t : Fin cfg0.N) : win0_1.index t = ![t.val / 37, 0] :=
  (by decide +kernel : ∀ t : Fin grid0.N, win0_1.index t = ![t.val / 37, 0]) t
theorem idx2 (t : Fin cfg0.N) : win0_2.index t = ![t.val % 37, 0] :=
  (by decide +kernel : ∀ t : Fin grid0.N, win0_2.index t = ![t.val % 37, 0]) t
theorem idx3 (t : Fin cfg0.N) : win0_3.index t = ![0, t.val % 37] :=
  (by decide +kernel : ∀ t : Fin grid0.N, win0_3.index t = ![0, t.val % 37]) t
theorem idx4 (t : Fin cfg0.N) : win0_4.index t = ![t.val % 37, 0] :=
  (by decide +kernel : ∀ t : Fin grid0.N, win0_4.index t = ![t.val % 37, 0]) t
theorem idx5 (t : Fin cfg0.N) : win0_5.index t = ![0, t.val % 37] :=
  (by decide +kernel : ∀ t : Fin grid0.N, win0_5.index t = ![0, t.val % 37]) t
theorem idx6 (t : Fin cfg0.N) : win0_6.index t = ![t.val / 37, t.val % 37] :=
  (by decide +kernel : ∀ t : Fin grid0.N, win0_6.index t = ![t.val / 37, t.val % 37]) t
theorem idx7 (t : Fin cfg0.N) : win0_7.index t = ![t.val / 37, 0] :=
  (by decide +kernel : ∀ t : Fin grid0.N, win0_7.index t = ![t.val / 37, 0]) t

theorem read0 (c : Dev nD) (t : Fin cfg0.N) (p : Fin 1024) (k : Fin 3584) :
    iblk m c 0 t (ix2 p k) = (argsK m c).x (1024 * (t.val / 37) + p) k := by
  have ht : t.val < 444 := t.isLt
  unfold argsK argsOf
  dsimp only
  rw [dif_pos (by omega)]
  blk_simp [iblk, idx0]
  entry_read
  pointwise
  blk_ext [idx0]

theorem read1 (c : Dev nD) (t : Fin cfg0.N) (p : Fin 1024) :
    iblk m c 1 t (ix2 p 0) = (argsK m c).xs (1024 * (t.val / 37) + p) := by
  have ht : t.val < 444 := t.isLt
  unfold argsK argsOf
  dsimp only
  rw [dif_pos (by omega)]
  blk_simp [iblk, idx1]
  entry_read
  pointwise
  blk_ext [idx1]

theorem read2 (c : Dev nD) (t : Fin cfg0.N) (q : Fin 256) (k : Fin 3584) :
    iblk m c 2 t (ix2 q k) = (argsK m c).wg (256 * (t.val % 37) + q) k := by
  have ht : t.val < 444 := t.isLt
  unfold argsK argsOf
  dsimp only
  rw [dif_pos (by omega)]
  blk_ext [iblk, V_main_arg2, idx2]

theorem read3 (c : Dev nD) (t : Fin cfg0.N) (q : Fin 256) :
    iblk m c 3 t (ix2 0 q) = (argsK m c).wgs (256 * (t.val % 37) + q) := by
  have ht : t.val < 444 := t.isLt
  unfold argsK argsOf
  dsimp only
  rw [dif_pos (by omega)]
  blk_simp [iblk, idx3]
  entry_read
  pointwise
  blk_ext [idx3]

theorem read4 (c : Dev nD) (t : Fin cfg0.N) (q : Fin 256) (k : Fin 3584) :
    iblk m c 4 t (ix2 q k) = (argsK m c).wu (256 * (t.val % 37) + q) k := by
  have ht : t.val < 444 := t.isLt
  unfold argsK argsOf
  dsimp only
  rw [dif_pos (by omega)]
  blk_ext [iblk, V_main_arg4, idx4]

theorem read5 (c : Dev nD) (t : Fin cfg0.N) (q : Fin 256) :
    iblk m c 5 t (ix2 0 q) = (argsK m c).wus (256 * (t.val % 37) + q) := by
  have ht : t.val < 444 := t.isLt
  unfold argsK argsOf
  dsimp only
  rw [dif_pos (by omega)]
  blk_simp [iblk, idx5]
  entry_read
  pointwise
  blk_ext [idx5]

theorem reads (c : Dev nD) (t : Fin cfg0.N) :
    Reads (argsK m c) (1024 * (t.val / 37)) (256 * (t.val % 37)) (iblk m c 0 t) (iblk m c 1 t) (iblk m c 2 t) (iblk m c 3 t)
      (iblk m c 4 t) (iblk m c 5 t) :=
  ⟨read0 m c t, read1 m c t, read2 m c t, read3 m c t, read4 m c t, read5 m c t⟩

end Cert.KernelIdeal.Hand
-- ==== Proof.Run.lean ====
module

public import proofs.«01_k».proof.Proof.Body
public import proofs.«01_k».proof.Proof.Reads
public import Idealize.ShloMosaic.Lib.Pipeline.DatRel
public import Idealize.ShloMosaic.Lib.Pipeline.ArrRel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window RDat BodyObligationRel cellOf)
open Cert.Spec

/-! # The run of the kernel

The scale window's block is revisited by the points of one row block, each writing its own lanes over what the point
before it left. Of that window it is stated that after a point, the lanes of this point and of every earlier point of the
same row block hold their groups' scales; nothing is said of the other lanes. -/

local notation "𝕄" => MT nD τ sig Unit (Elt Ideal) ℕ (UR sig nD τ) ℕ

variable (m : (ℓ : Loc nD τ sig) → Buf (Elt Ideal) ℓ) (ρ : Dev nD → PrngReg)

/-- The window of which only a predicate is stated. -/
def partial0 : Fin 8 → Bool := fun w => w.val == 7

/-- After point `t` the scale window holds the scales of the groups seen so far in this row block. -/
def upTo (c : Dev nD) (t : Fin cfg0.N) (X : Vec Ideal S1024x74 .f32) : Prop :=
  ∀ y : S1024x74.Idx, (y 1).val < 2 * (t.val % 37 + 1) →
    X y = Spec.scale (argsK m c) (1024 * (t.val / 37) + (y 0).val) (y 1).val

/-- `upTo` of the scale window, nothing of the others. -/
def held (c : Dev nD) : (w : Fin cfg0.W) → Fin cfg0.N → ((cfg0.win w).block.Idx → Elt Ideal (cfg0.win w).elt) → Prop
  | ⟨7, _⟩, t, X => upTo m c t X
  | _, _, _ => True

/-- The run's data: each input's block in place, the codes of the input blocks, the scale window unnamed. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => codesBlk (iblk m c 0 t) (iblk m c 1 t) (iblk m c 2 t) (iblk m c 3 t) (iblk m c 4 t) (iblk m c 5 t)
    | ⟨7, h⟩ => Pipeline.Dat.unnamed (cfg := cfg0) ⟨7, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = codesBlk (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The run's data with the scale window held to `upTo`. -/
abbrev rdat (c : Dev nD) : RDat τ (Elt Ideal) Unit ℕ (UR sig nD τ) ℕ cfg0 c := (dats m 0 c).toRRel partial0 (held m c)

/-- What a point leaves in the scale window, from anything it may find there. -/
theorem upTo_step (c : Dev nD) (t : Fin cfg0.N) (Y : Vec Ideal S1024x74 .f32) (hY : (rdat m c).Finds 7 t Y) :
    upTo m c t (scaleBlk (BitVec.ofNat 32 (grid0.coords t 1).val) (iblk m c 0 t) (iblk m c 1 t) (iblk m c 2 t) (iblk m c 3 t)
      (iblk m c 4 t) (iblk m c 5 t) Y) := by
  intro y hy
  rw [coord1, scaleBlk_apply (reads m c t) (Nat.mod_lt _ (by norm_num))]
  unfold over
  split
  · rfl
  · next hne =>
    have h0 : t.val ≠ 0 := by
      intro h
      rw [h] at hy hne
      omega
    rw [RDat.finds_of_pos _ rfl h0] at hY
    have hlt : t.val - 1 < cfg0.N := Nat.lt_of_le_of_lt (Nat.sub_le _ _) t.isLt
    have hprev : upTo m c ⟨t.val - 1, hlt⟩ Y := by
      rcases hY with hf | hL
      · have h36 := (flush0_7 ⟨t.val - 1, hlt⟩).mp hf
        simp only at h36
        omega
      · exact (dats m 0 c).toRRel_leaves (w := 7) rfl hL
    have hq := hprev y (by simp only; omega)
    rw [hq]
    simp only
    rw [show (t.val - 1) / 37 = t.val / 37 by omega]

/-! ## The body at a generic point -/

/-- The windows' current staging buffers at point `t`. -/
abbrev ms0_0 (t : Fin cfg0.N) : Memref sig .tc .vmem S1024x3584 .fp8e4m3 := win0_0.stage (cfg0.slots t 0)
abbrev ms0_1 (t : Fin cfg0.N) : Memref sig .tc .vmem S1024x1 .f32 := win0_1.stage (cfg0.slots t 1)
abbrev ms0_2 (t : Fin cfg0.N) : Memref sig .tc .vmem S256x3584 .fp8e4m3 := win0_2.stage (cfg0.slots t 2)
abbrev ms0_3 (t : Fin cfg0.N) : Memref sig .tc .vmem S1x256 .f32 := win0_3.stage (cfg0.slots t 3)
abbrev ms0_4 (t : Fin cfg0.N) : Memref sig .tc .vmem S256x3584 .fp8e4m3 := win0_4.stage (cfg0.slots t 4)
abbrev ms0_5 (t : Fin cfg0.N) : Memref sig .tc .vmem S1x256 .f32 := win0_5.stage (cfg0.slots t 5)
abbrev ms0_6 (t : Fin cfg0.N) : Memref sig .tc .vmem S1024x256 .fp8e4m3 := win0_6.stage (cfg0.slots t 6)
abbrev ms0_7 (t : Fin cfg0.N) : Memref sig .tc .vmem S1024x74 .f32 := win0_7.stage (cfg0.slots t 7)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ Y, ⌜(rdat m c).Finds 7 t Y⌝ ∗ owns (c : Thread nD τ) (ms0_7 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ X, ⌜held m c 7 t X⌝ ∗ owns (c : Thread nD τ) (ms0_7 t) fullShare X))

set_option maxHeartbeats 800000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩, ⟨%Y, %hY, H7⟩⟩
  iapply ((bodyRun (F := Ideal) c (grid0.coords t) _ _ _ _ _ _ _ _ _ _ _ _ _ _ _ _ (iblk m c 0 t) (iblk m c 1 t) (iblk m c 2 t) (iblk m c 3 t) (iblk m c 4 t) (iblk m c 5 t) Y) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; isplitr
  swap; · iexact H7
  ipureintro
  exact upTo_step m c t Y hY

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) :
    BodyObligationRel (dats m 0 c) (defs₀ (F := Ideal)) Variants.none () Set.univ partial0 (held m c) := fun t => by
  rw [bigSep_W0, bigSep_W0, defs₀_row]
  exact triple_restated (sound_body m c t) rfl .rfl fun _ => .rfl

/-! ## The run -/

set_option backward.isDefEq.respectTransparency.types false in
theorem run_main_quiescent : θ_run defs (onTc (τ := τ) (main (F := Ideal))) (s₀ m ρ)
    (fun r => (RDat.FramePost (cfgs 0) (rdat m) (V m)) r ∧ r.2.sem = fun _ => 0) :=
  RDat.θ_run_frame (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

/-- The argument arrays after the run. -/
theorem kept {r : PUnit × MemSt nD τ sig (Elt Ideal)} (h : RDat.FramePost (cfgs 0) (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    (Pipeline.RDat.FramePost.arr_in h c 2 rfl).trans ((A_eq m c 2).trans (V_main_arg2 m c)),
    ((h c).2 main_arg3 (Pipeline.mem_restRefs_of main_arg3 (by decide) (by decide))).trans (V_main_arg3 m c),
    (Pipeline.RDat.FramePost.arr_in h c 4 rfl).trans ((A_eq m c 4).trans (V_main_arg4 m c)),
    ((h c).2 main_arg5 (Pipeline.mem_restRefs_of main_arg5 (by decide) (by decide))).trans (V_main_arg5 m c)⟩

/-- The results after the run. -/
theorem results {r : PUnit × MemSt nD τ sig (Elt Ideal)} (h : RDat.FramePost (cfgs 0) (rdat m) (V m) r) (c : Dev nD) :
    r.2.mem ((c.tc : Thread nD τ).loc main_v4_0) = (fun y : S12288x9472.Idx => code (argsK m c) (y 0).val (y 1).val)
      ∧ r.2.mem ((c.tc : Thread nD τ).loc main_v4_1) = (fun y : S12288x74.Idx => Spec.scale (argsK m c) (y 0).val (y 1).val) := by
  obtain ⟨after, hL, hA⟩ := RDat.FramePost.exists_exact h c
  constructor
  · refine (hA 6).trans ?_
    refine Dat.arrAt_eq_of_covers _ 6 _ (by decide +kernel) fun t hf y => ?_
    have h6 : after 6 t = (dats m 0 c).after 6 t := by
      obtain ⟨Y, -, hX⟩ := hL 6 t hf
      exact hX
    rw [RDat.withAfter_after, h6, after0_6]
    refine (codesBlk_apply (reads m c t) _).trans ?_
    blk_simp [idx6]
    show code (argsK m c) (1024 * (t.val / 37) + (y 0).val) (256 * (t.val % 37) + (y 1).val) = _
    rw [Nat.mul_comm 1024, Nat.mul_comm 256]
  · refine (hA 7).trans ?_
    refine Dat.arrAt_eq_of_covers _ 7 _ (by decide +kernel) fun t hf y => ?_
    have h7 : upTo m c t (after 7 t) := (dats m 0 c).toRRel_leaves (w := 7) rfl (hL 7 t hf)
    rw [RDat.withAfter_after]
    have h36 := (flush0_7 t).mp hf
    have hy : (y 1).val < 74 := (y 1).isLt
    refine (h7 _ ?_).trans ?_
    · rw [h36]; exact hy
    blk_simp [idx7]
    show Spec.scale (argsK m c) (1024 * (t.val / 37) + (y 0).val) (y 1).val = _
    rw [Nat.mul_comm 1024]

end Cert.KernelIdeal.Hand
-- ==== Proof.RPoint.lean ====
module

public import proofs.«01_k».proof.Proof.Spec
public import proofs.«01_k».proof.Proof.Gen.ReferenceIdeal.Frame
public import Idealize.ShloMosaic.Lib.Pipeline.Value
public import Idealize.ShloMosaic.Lib.Pointwise
public import Idealize.ShloMosaic.Lib.Pipeline.ValueKit
public import Idealize.ShloMosaic.Lib.Pipeline.ValueKit.Point
public import Idealize.ShloMosaic.Lib.Claim

@[expose] public section

set_option maxRecDepth 16384

noncomputable section

namespace Cert.ReferenceIdeal.Hand

open Cert.ReferenceIdeal Cert.ReferenceIdeal.Gen
open Idealize.ShloMosaic Idealize.ShloMosaic.TcCoe
open Idealize.ShloMosaic.Pipeline (Dat)
open Cert.Spec Cert.Scale

/-! # The reference, element by element -/

theorem fold_apply (v : FVec Ideal S12288x74x128 .f32) (p : Fin 12288) (j : Fin 74) :
    multiReduction .maximumf [2] S12288x74 v 0xFF800000#32 reduces_S12288x74x128_S12288x74 (.inl rfl) rfl (ix2 p j)
      = Finset.fold max (Ideal.ofBits .f32 0xFF800000#32) (fun l : Fin 128 => v (ix3 p j l)) Finset.univ := by
  pointwise

theorem mul_const_apply (g : FVec Ideal S12288x74 .f32) (b : BitVec 32) (y : S12288x74.Idx) :
    mulf g (broadcast S12288x74 (Scalar.ofBits (F := Ideal) .f32 b)) y = g y * Ideal.ofBits .f32 b := rfl

/-- The largest magnitude of each group, over 448. -/
theorem amax_apply (v : FVec Ideal S12288x74x128 .f32) (p : Fin 12288) (j : Fin 74) :
    mulf (multiReduction .maximumf [2] S12288x74 (absf v) 0xFF800000#32 reduces_S12288x74x128_S12288x74 (.inl rfl) rfl)
        (broadcast S12288x74 (Scalar.ofBits (F := Ideal) .f32 0x3B124925#32)) (ix2 p j)
      = Finset.fold max (Ideal.ofBits .f32 0xFF800000#32) (fun l : Fin 128 => max (v (ix3 p j l)) (-v (ix3 p j l))) Finset.univ
          * Ideal.ofBits .f32 0x3B124925#32 := by
  rw [mul_const_apply, fold_apply]
  rfl

/-- The binary exponent of each group's ratio. -/
theorem expo_apply (r : FVec Ideal S12288x74 .f32) (p : Fin 12288) (j : Fin 74) :
    addf (floor (divf (log r) (broadcast S12288x74 (Named.named (F := Ideal) κ "ln2" 0x3F317218#32))))
        (broadcast S12288x74 (Scalar.ofBits (F := Ideal) .f32 0x3F800000#32)) (ix2 p j)
      = expR (r (ix2 p j)) := by
  pointwise
  rfl

theorem fin_apply (e : FVec Ideal S12288x74 .f32) (p : Fin 12288) (j : Fin 74) :
    cmpf .oge e (broadcast S12288x74 (Scalar.ofBits (F := Ideal) .f32 0xC2FA0000#32)) (ix2 p j)
      = BitVec.ofBool (decide (Ideal.ofBits .f32 0xC2FA0000#32 ≤ e (ix2 p j))) := by
  pointwise

theorem use_apply (r e : FVec Ideal S12288x74 .f32) (p : Fin 12288) (j : Fin 74)
    (he : e (ix2 p j) = expR (r (ix2 p j))) (n : IVec S12288x74 1)
    (hn : n (ix2 p j) = BitVec.ofBool (decide (Ideal.ofBits .f32 0xC2FA0000#32 ≤ e (ix2 p j)))) :
    k0_pay1 r e n (k0_pay8 (F := Ideal)) (ix2 p j) = useR (r (ix2 p j)) := by
  pointwise [k0_pay1, k0_pay8]
  rw [hn, he]
  rfl

theorem scale_apply (r e : FVec Ideal S12288x74 .f32) (n : IVec S12288x74 1) (i : FVec Ideal S12288x74 .f32) (u : EReal)
    (p : Fin 12288) (j : Fin 74) (hu : k0_pay1 r e n i (ix2 p j) = u) :
    k0_pay2 r e n i (ix2 p j) = scaleR u := by
  pointwise [k0_pay2]
  rw [hu]
  rfl

theorem code_apply (v : FVec Ideal S12288x74x128 .f32) (r e : FVec Ideal S12288x74 .f32) (n : IVec S12288x74 1)
    (i : FVec Ideal S12288x74 .f32) (u : EReal) (p : Fin 12288) (q : Fin 9472)
    (hu : k0_pay1 r e n i (ix2 p ⟨q.val / 128, by omega⟩) = u) :
    k0_pay3 v r e n i (ix2 p q)
      = min (Ideal.ofBits .f32 0x43E00000#32) (max (Ideal.ofBits .f32 0xC3E00000#32)
          (v (ix3 p ⟨q.val / 128, by omega⟩ ⟨q.val % 128, by omega⟩) * invR u)) := by
  pointwise [k0_pay3]
  rw [hu]
  rfl

/-- The operands hold the arguments, row scales and column scales as vectors. -/
structure Reads (a : Args) (x0 : Vec Ideal S12288x3584 .fp8e4m3) (x1 : Vec Ideal S12288 .f32) (x2 : Vec Ideal S9472x3584 .fp8e4m3)
    (x3 : Vec Ideal S9472 .f32) (x4 : Vec Ideal S9472x3584 .fp8e4m3) (x5 : Vec Ideal S9472 .f32) : Prop where
  h0 : ∀ (p : Fin 12288) (k : Fin 3584), x0 (ix2 p k) = a.x p k
  h1 : ∀ p : Fin 12288, x1 (ix1 p) = a.xs p
  h2 : ∀ (q : Fin 9472) (k : Fin 3584), x2 (ix2 q k) = a.wg q k
  h3 : ∀ q : Fin 9472, x3 (ix1 q) = a.wgs q
  h4 : ∀ (q : Fin 9472) (k : Fin 3584), x4 (ix2 q k) = a.wu q k
  h5 : ∀ q : Fin 9472, x5 (ix1 q) = a.wus q

variable {a : Args} {x0 : Vec Ideal S12288x3584 .fp8e4m3} {x1 : Vec Ideal S12288 .f32} {x2 : Vec Ideal S9472x3584 .fp8e4m3}
  {x3 : Vec Ideal S9472 .f32} {x4 : Vec Ideal S9472x3584 .fp8e4m3} {x5 : Vec Ideal S9472 .f32}

theorem hv_apply (h : Reads a x0 x1 x2 x3 x4 x5) (p : Fin 12288) (j : Fin 74) (l : Fin 128) :
    k0_pay4 x1 x0 x2 x3 x0 x4 x5 (ix3 p j l) = hv a p (j.val * 128 + l.val) := by
  pointwise [k0_pay4]
  simp only [h.h0, h.h1, h.h2, h.h3, h.h4, h.h5]
  rfl

theorem ratio_apply (h : Reads a x0 x1 x2 x3 x4 x5) (p : Fin 12288) (j : Fin 74) :
    k0_pay5 x1 x0 x2 x3 x0 x4 x5 (ix2 p j) = Spec.ratio a p j := by
  unfold k0_pay5
  refine (amax_apply _ p j).trans ?_
  unfold Spec.ratio amax
  simp only [hv_apply h]

theorem useOf_apply (h : Reads a x0 x1 x2 x3 x4 x5) (p : Fin 12288) (j : Fin 74) :
    k0_pay1 (k0_pay5 x1 x0 x2 x3 x0 x4 x5) (k0_pay6 x1 x0 x2 x3 x0 x4 x5) (k0_pay7 x1 x0 x2 x3 x0 x4 x5) (k0_pay8 (F := Ideal)) (ix2 p j)
      = useR (Spec.ratio a p j) := by
  rw [← ratio_apply h p j]
  refine use_apply _ _ p j ?_ _ ?_
  · unfold k0_pay6
    exact expo_apply _ p j
  · unfold k0_pay7
    exact fin_apply _ p j

theorem scales_apply (h : Reads a x0 x1 x2 x3 x4 x5) (p : Fin 12288) (j : Fin 74) :
    k0_pay2 (k0_pay5 x1 x0 x2 x3 x0 x4 x5) (k0_pay6 x1 x0 x2 x3 x0 x4 x5) (k0_pay7 x1 x0 x2 x3 x0 x4 x5) (k0_pay8 (F := Ideal)) (ix2 p j)
      = Spec.scale a p j :=
  scale_apply _ _ _ _ _ p j (useOf_apply h p j)

theorem codes_apply (h : Reads a x0 x1 x2 x3 x4 x5) (p : Fin 12288) (q : Fin 9472) :
    k0_pay3 (k0_pay4 x1 x0 x2 x3 x0 x4 x5) (k0_pay5 x1 x0 x2 x3 x0 x4 x5) (k0_pay6 x1 x0 x2 x3 x0 x4 x5)
        (k0_pay7 x1 x0 x2 x3 x0 x4 x5) (k0_pay8 (F := Ideal)) (ix2 p q)
      = code a p q := by
  rw [code_apply _ _ _ _ _ _ p q (useOf_apply h p ⟨q.val / 128, by omega⟩), hv_apply h]
  unfold code
  rw [show q.val / 128 * 128 + q.val % 128 = q.val by omega]

theorem ld0 (x : Vec Ideal S12288 .f32) : View.ld x r0_0 = x := View.ld_unit_lit _ x (by decide)
theorem ld1 (x : Vec Ideal S12288x3584 .fp8e4m3) : View.ld x r0_1 = x := View.ld_unit_lit _ x (by decide)
theorem ld2 (x : Vec Ideal S9472x3584 .fp8e4m3) : View.ld x r0_2 = x := View.ld_unit_lit _ x (by decide)
theorem ld3 (x : Vec Ideal S9472 .f32) : View.ld x r0_3 = x := View.ld_unit_lit _ x (by decide)

theorem canon6 (w : Vec Ideal S12288x9472 .fp8e4m3) : View.canon [⟨r0_4, w⟩] = w := View.canon_cons_unit_lit _ w [] (by decide)
theorem canon7 (w : Vec Ideal S12288x74 .f32) : View.canon [⟨r0_5, w⟩] = w := View.canon_cons_unit_lit _ w [] (by decide)

theorem ix2_eta {m n : ℕ} (y : (⟨2, ![m, n]⟩ : Shape).Idx) : ix2 (y 0) (y 1) = y := by
  funext a
  match a with
  | ⟨0, _⟩ => rfl
  | ⟨1, _⟩ => rfl

theorem out6_apply (h : Reads a x0 x1 x2 x3 x4 x5) (y : S12288x9472.Idx) :
    out0_6 x0 x1 x2 x3 x4 x5 y = code a (y 0).val (y 1).val := by
  unfold out0_6 k0_pay12 k0_pay11 k0_pay10 k0_pay9
  rw [canon6, ld0, ld1, ld2, ld3, ld2, ld3]
  obtain ⟨p, q, rfl⟩ : ∃ (p : Fin 12288) (q : Fin 9472), y = ix2 p q := ⟨y 0, y 1, (ix2_eta y).symm⟩
  exact codes_apply h p q

theorem out7_apply (h : Reads a x0 x1 x2 x3 x4 x5) (y : S12288x74.Idx) :
    out0_7 x0 x1 x2 x3 x4 x5 y = Spec.scale a (y 0).val (y 1).val := by
  unfold out0_7 k0_pay12 k0_pay11 k0_pay10 k0_pay9
  rw [canon7, ld0, ld1, ld2, ld3, ld2, ld3]
  obtain ⟨p, q, rfl⟩ : ∃ (p : Fin 12288) (q : Fin 74), y = ix2 p q := ⟨y 0, y 1, (ix2_eta y).symm⟩
  exact scales_apply h p q

/-! ## The run -/

variable (m : (ℓ : Loc nD τ sig) → Buf (Elt Ideal) ℓ) (ρ : Dev nD → PrngReg)

/-- The arguments of core `c` by coordinates. -/
def argsR (c : Dev nD) : Args :=
  argsOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem idx0 (t : Fin cfg0.N) : win0_0.index t = ![0, 0] :=
  (by decide +kernel : ∀ t : Fin grid0.N, win0_0.index t = ![0, 0]) t
theorem idx1 (t : Fin cfg0.N) : win0_1.index t = ![0] :=
  (by decide +kernel : ∀ t : Fin grid0.N, win0_1.index t = ![0]) t
theorem idx2 (t : Fin cfg0.N) : win0_2.index t = ![0, 0] :=
  (by decide +kernel : ∀ t : Fin grid0.N, win0_2.index t = ![0, 0]) t
theorem idx3 (t : Fin cfg0.N) : win0_3.index t = ![0] :=
  (by decide +kernel : ∀ t : Fin grid0.N, win0_3.index t = ![0]) t
theorem idx4 (t : Fin cfg0.N) : win0_4.index t = ![0, 0] :=
  (by decide +kernel : ∀ t : Fin grid0.N, win0_4.index t = ![0, 0]) t
theorem idx5 (t : Fin cfg0.N) : win0_5.index t = ![0] :=
  (by decide +kernel : ∀ t : Fin grid0.N, win0_5.index t = ![0]) t
theorem idx6 (t : Fin cfg0.N) : win0_6.index t = ![0, 0] :=
  (by decide +kernel : ∀ t : Fin grid0.N, win0_6.index t = ![0, 0]) t
theorem idx7 (t : Fin cfg0.N) : win0_7.index t = ![0, 0] :=
  (by decide +kernel : ∀ t : Fin grid0.N, win0_7.index t = ![0, 0]) t

theorem reads (c : Dev nD) (t : Fin cfg0.N) :
    Reads (argsR m c) (iblk m c 0 t) (iblk m c 1 t) (iblk m c 2 t) (iblk m c 3 t) (iblk m c 4 t) (iblk m c 5 t) := by
  constructor
  · intro p k
    unfold argsR argsOf
    dsimp only
    rw [dif_pos ⟨p.isLt, k.isLt⟩]
    blk_simp [iblk, idx0]
    entry_read
    pointwise
    blk_ext [idx0]
  · intro p
    unfold argsR argsOf
    dsimp only
    rw [dif_pos p.isLt]
    blk_simp [iblk, idx1]
    entry_read
    pointwise
    blk_ext [idx1]
  · intro q k
    unfold argsR argsOf
    dsimp only
    rw [dif_pos ⟨q.isLt, k.isLt⟩]
    blk_ext [iblk, V_main_arg2, idx2]
  · intro q
    unfold argsR argsOf
    dsimp only
    rw [dif_pos q.isLt]
    blk_ext [iblk, V_main_arg3, idx3]
  · intro q k
    unfold argsR argsOf
    dsimp only
    rw [dif_pos ⟨q.isLt, k.isLt⟩]
    blk_ext [iblk, V_main_arg4, idx4]
  · intro q
    unfold argsR argsOf
    dsimp only
    rw [dif_pos q.isLt]
    blk_ext [iblk, V_main_arg5, idx5]

end Cert.ReferenceIdeal.Hand
-- ==== Proof.RRun.lean ====
module

public import proofs.«01_k».proof.Proof.RPoint
public import proofs.«01_k».proof.Proof.Gen.ReferenceIdeal.Frame
public import Idealize.ShloMosaic.Lib.Pipeline.Value
public import Idealize.ShloMosaic.Lib.Pointwise
public import Idealize.ShloMosaic.Lib.Pipeline.ValueKit
public import Idealize.ShloMosaic.Lib.Pipeline.ValueKit.Point
public import Idealize.ShloMosaic.Lib.Claim

@[expose] public section

set_option maxRecDepth 16384

noncomputable section

namespace Cert.ReferenceIdeal.Hand

open Cert.ReferenceIdeal Cert.ReferenceIdeal.Gen
open Idealize.ShloMosaic Idealize.ShloMosaic.TcCoe
open Idealize.ShloMosaic.Pipeline (Dat)
open Cert.Spec Cert.Scale

variable (m : (ℓ : Loc nD τ sig) → Buf (Elt Ideal) ℓ) (ρ : Dev nD → PrngReg)

/-- The body leaves the codes in block 6. -/
theorem after6 (c : Dev nD) (t : Fin cfg0.N) :
    (dats m 0 c).after 6 t = (fun y : S12288x9472.Idx => code (argsR m c) (y 0).val (y 1).val) :=
  (after0_6 m c t).trans (funext fun y => out6_apply (reads m c t) y)

/-- The codes after the run. -/
theorem result0 (c : Dev nD) :
    (dats m 0 c).arrAt 6 cfg0.N = (fun y : S12288x9472.Idx => code (argsR m c) (y 0).val (y 1).val) := by
  refine Dat.arrAt_eq_of_covers _ 6 _ (by decide +kernel) fun t hf y => ?_
  rw [after6]
  blk_simp [idx6]

/-- The body leaves the scales in block 7. -/
theorem after7 (c : Dev nD) (t : Fin cfg0.N) :
    (dats m 0 c).after 7 t = (fun y : S12288x74.Idx => Spec.scale (argsR m c) (y 0).val (y 1).val) :=
  (after0_7 m c t).trans (funext fun y => out7_apply (reads m c t) y)

/-- The scales after the run. -/
theorem result1 (c : Dev nD) :
    (dats m 0 c).arrAt 7 cfg0.N = (fun y : S12288x74.Idx => Spec.scale (argsR m c) (y 0).val (y 1).val) := by
  refine Dat.arrAt_eq_of_covers _ 7 _ (by decide +kernel) fun t hf y => ?_
  rw [after7]
  blk_simp [idx7]

/-- The results after the run. -/
theorem results {r : PUnit × MemSt nD τ sig (Elt Ideal)} (h : Pipeline.FramePost cfgs (dats m) 0 (V m) r) (c : Dev nD) :
    r.2.mem ((c.tc : Thread nD τ).loc main_v2_0) = (fun y : S12288x9472.Idx => code (argsR m c) (y 0).val (y 1).val)
      ∧ r.2.mem ((c.tc : Thread nD τ).loc main_v2_1) = (fun y : S12288x74.Idx => Spec.scale (argsR m c) (y 0).val (y 1).val) :=
  ⟨((h c).1 6).trans (result0 m c), ((h c).1 7).trans (result1 m c)⟩

end Cert.ReferenceIdeal.Hand
-- ==== Proof.lean ====
/-
  The claim proved. The frame of the reference comes from the generated module; that of the kernel as printed from
  `Proof/KFrame.lean`; that of the kernel at exact values, and its results, from `Proof/Run.lean`; the reference's results
  from `Proof/RRun.lean`. The last two state the results as the same two functions of the arguments by
  coordinates (`Proof/Spec.lean`), so the value claim is that both sides have the same arguments.
-/
module

public import proofs.«01_k».proof.Defs
public import proofs.«01_k».proof.Proof.KFrame
public import proofs.«01_k».proof.Proof.Gen.ReferenceIdeal.Frame
public import proofs.«01_k».proof.Proof.Run
public import proofs.«01_k».proof.Proof.RRun

@[expose] public section

noncomputable section

namespace Cert.Proof

open Idealize.ShloMosaic Idealize.SL.Sem
open Cert.Spec

/-- Equal arrays, equal arguments. -/
theorem congrArg₆ {A B C D E G T : Type} {f : A → B → C → D → E → G → T} {a a' : A} {b b' : B} {c c' : C} {d d' : D}
    {e e' : E} {g g' : G} (ha : a = a') (hb : b = b') (hc : c = c') (hd : d = d') (he : e = e') (hg : g = g') :
    f a b c d e g = f a' b' c' d' e' g' := by
  rw [ha, hb, hc, hd, he, hg]

/-- The kernel at exact values runs, keeps its arguments and ends with every counter at zero. -/
theorem quiescentKernelIdeal : Cert.quiescent_KernelIdeal (hKernelIdeal := Cert.KernelIdeal.Gen.facts) := fun m g _ =>
  (θ_run _ _ _).mono (fun _ h => ⟨fun c => Cert.KernelIdeal.Hand.kept m h.1 c, h.2⟩)
    (Cert.KernelIdeal.Hand.run_main_quiescent m g)

/-- The kernel and the reference end with the same codes and the same scales. -/
theorem algebraic : Cert.algebraic_KernelIdeal_ReferenceIdeal (hKernelIdeal := Cert.KernelIdeal.Gen.facts)
    (hReferenceIdeal := Cert.ReferenceIdeal.Gen.facts) := by
  intro m g m' g' _ hargs
  have hsame : ∀ c, Cert.ReferenceIdeal.Hand.argsR m' c = Cert.KernelIdeal.Hand.argsK m c := fun c => by
    obtain ⟨h0, h1, h2, h3, h4, h5⟩ := hargs c
    unfold Cert.ReferenceIdeal.Hand.argsR Cert.KernelIdeal.Hand.argsK
    exact congrArg₆ (f := argsOf) h0 h1 h2 h3 h4 h5
  refine ⟨fun c => (fun y : Cert.KernelIdeal.S12288x9472.Idx => code (Cert.KernelIdeal.Hand.argsK m c) (y 0).val (y 1).val),
    fun c => (fun y : Cert.KernelIdeal.S12288x74.Idx => scale (Cert.KernelIdeal.Hand.argsK m c) (y 0).val (y 1).val), ?_, ?_⟩
  · exact (θ_run _ _ _).mono
      (fun _ h c => ⟨(Cert.KernelIdeal.Hand.results m h.1 c).1, (Cert.KernelIdeal.Hand.results m h.1 c).2,
        Cert.KernelIdeal.Hand.kept m h.1 c⟩)
      (Cert.KernelIdeal.Hand.run_main_quiescent m g)
  · refine (θ_run _ _ _).mono (fun _ h c => ?_)
      (θ_run_and (Cert.ReferenceIdeal.Gen.run_main m' g') (Cert.ReferenceIdeal.Gen.unchanged m' g'))
    have hr := Cert.ReferenceIdeal.Hand.results m' h.1 c
    rw [hsame c] at hr
    exact ⟨hr.1, hr.2, h.2 c⟩

/-- The five claims. -/
theorem claim : Cert.Claim :=
  ⟨Cert.Kernel.Gen.facts, Cert.KernelIdeal.Gen.facts, Cert.ReferenceIdeal.Gen.facts,
    fun m g _ => Cert.Kernel.Hand.frame m g, quiescentKernelIdeal, fun m g _ => Cert.ReferenceIdeal.Gen.frame m g,
    trivial, algebraic⟩

end Cert.Proof

end
